-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S8x512x256 : Shape := ⟨3, ![8, 512, 256]⟩
abbrev S7x512x256 : Shape := ⟨3, ![7, 512, 256]⟩
abbrev S1x128 : Shape := ⟨2, ![1, 128]⟩
abbrev S7x128 : Shape := ⟨2, ![7, 128]⟩
abbrev S7 : Shape := ⟨1, ![7]⟩
abbrev S_ : Shape := ⟨0, ![]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S1x7x128 : Shape := ⟨3, ![1, 7, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S4096x2048, .f32⟩
  | .local _ .vmem, ⟨2, _⟩ => ⟨S4096x256, .f32⟩
  | .local _ .vmem, ⟨3, _⟩ => ⟨S8x512x256, .f32⟩
  | .local _ .vmem, ⟨4, _⟩ => ⟨S7x512x256, .f32⟩
  | .local _ .vmem, ⟨5, _⟩ => ⟨S1x128, .f32⟩
  | .local _ .vmem, ⟨6, _⟩ => ⟨S7x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_65 : BitVec 32) : Fin 2 → Nat :=
  let c0_72 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c1_i32_65
  let c8_i32_66 : BitVec 32 := 8#32
  let c0_i32_67 : BitVec 32 := 0#32
  let v99 : BitVec 1 := Scalar.cmpi .eq c8_i32_66 c0_i32_67
  let c1_i32_68 : BitVec 32 := 1#32
  let v100 : BitVec 32 := Scalar.select v99 c1_i32_68 c8_i32_66
  let v101 : BitVec 32 := Scalar.remsi v98 v100
  let c0_i32_70 : BitVec 32 := 0#32
  let v103 : BitVec 1 := Scalar.cmpi .slt v101 c0_i32_70
  let c0_i32_71 : BitVec 32 := 0#32
  let v104 : BitVec 1 := Scalar.cmpi .slt v100 c0_i32_71
  let v105 : BitVec 1 := Scalar.xori v103 v104
  let c0_i32_69 : BitVec 32 := 0#32
  let v102 : BitVec 1 := Scalar.cmpi .ne v101 c0_i32_69
  let v106 : BitVec 1 := Scalar.andi v105 v102
  let v107 : BitVec 32 := Scalar.addi v101 v100
  let v108 : BitVec 32 := Scalar.select v106 v107 v101
  let c256_i32 : BitVec 32 := 256#32
  let v109 : BitVec 32 := Scalar.muli v108 c256_i32
  let v110 : Index := Scalar.indexCast v109
  ![0, v110.toNat]
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_65 : BitVec 32 := 1#32
  let v98 : BitVec 32 := Scalar.addi v2 c1_i32_65
  let c8_i32_66 : BitVec 32 := 8#32
  let c0_i32_67 : BitVec 32 := 0#32
  let v99 : BitVec 1 := Scalar.cmpi .eq c8_i32_66 c0_i32_67
  let c1_i32_68 : BitVec 32 := 1#32
  let v100 : BitVec 32 := Scalar.select v99 c1_i32_68 c8_i32_66
  let v101 : BitVec 32 := Scalar.remsi v98 v100
  let c0_i32_70 : BitVec 32 := 0#32
  let v103 : BitVec 1 := Scalar.cmpi .slt v101 c0_i32_70
  let c0_i32_71 : BitVec 32 := 0#32
  let v104 : BitVec 1 := Scalar.cmpi .slt v100 c0_i32_71
  let v105 : BitVec 1 := Scalar.xori v103 v104
  let c0_i32_69 : BitVec 32 := 0#32
  let v102 : BitVec 1 := Scalar.cmpi .ne v101 c0_i32_69
  let v106 : BitVec 1 := Scalar.andi v105 v102
  let v107 : BitVec 32 := Scalar.addi v101 v100
  let v108 : BitVec 32 := Scalar.select v106 v107 v101
  let c1_i32_82 : BitVec 32 := 1#32
  let v124 : BitVec 32 := Scalar.muli v108 c1_i32_82
  let v125 : BitVec 32 := Scalar.addi c0_i32_83 v124
  v125.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v134 : BitVec 32 := Scalar.addi v2 c2_i32_88
  let c8_i32_89 : BitVec 32 := 8#32
  let c0_i32_90 : BitVec 32 := 0#32
  let v135 : BitVec 1 := Scalar.cmpi .eq c8_i32_89 c0_i32_90
  let c1_i32_91 : BitVec 32 := 1#32
  let v136 : BitVec 32 := Scalar.select v135 c1_i32_91 c8_i32_89
  let v137 : BitVec 32 := Scalar.remsi v134 v136
  let c0_i32_93 : BitVec 32 := 0#32
  let v139 : BitVec 1 := Scalar.cmpi .slt v137 c0_i32_93
  let c0_i32_94 : BitVec 32 := 0#32
  let v140 : BitVec 1 := Scalar.cmpi .slt v136 c0_i32_94
  let v141 : BitVec 1 := Scalar.xori v139 v140
  let c0_i32_92 : BitVec 32 := 0#32
  let v138 : BitVec 1 := Scalar.cmpi .ne v137 c0_i32_92
  let v142 : BitVec 1 := Scalar.andi v141 v138
  let v143 : BitVec 32 := Scalar.addi v137 v136
  let v144 : BitVec 32 := Scalar.select v142 v143 v137
  let c1_i32_105 : BitVec 32 := 1#32
  let v160 : BitVec 32 := Scalar.muli v144 c1_i32_105
  let v161 : BitVec 32 := Scalar.addi c0_i32_106 v160
  v161.toNat
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_111 : BitVec 32 := 3#32
  let v170 : BitVec 32 := Scalar.addi v2 c3_i32_111
  let c8_i32_112 : BitVec 32 := 8#32
  let c0_i32_113 : BitVec 32 := 0#32
  let v171 : BitVec 1 := Scalar.cmpi .eq c8_i32_112 c0_i32_113
  let c1_i32_114 : BitVec 32 := 1#32
  let v172 : BitVec 32 := Scalar.select v171 c1_i32_114 c8_i32_112
  let v173 : BitVec 32 := Scalar.remsi v170 v172
  let c0_i32_116 : BitVec 32 := 0#32
  let v175 : BitVec 1 := Scalar.cmpi .slt v173 c0_i32_116
  let c0_i32_117 : BitVec 32 := 0#32
  let v176 : BitVec 1 := Scalar.cmpi .slt v172 c0_i32_117
  let v177 : BitVec 1 := Scalar.xori v175 v176
  let c0_i32_115 : BitVec 32 := 0#32
  let v174 : BitVec 1 := Scalar.cmpi .ne v173 c0_i32_115
  let v178 : BitVec 1 := Scalar.andi v177 v174
  let v179 : BitVec 32 := Scalar.addi v173 v172
  let v180 : BitVec 32 := Scalar.select v178 v179 v173
  let c1_i32_128 : BitVec 32 := 1#32
  let v196 : BitVec 32 := Scalar.muli v180 c1_i32_128
  let v197 : BitVec 32 := Scalar.addi c0_i32_129 v196
  v197.toNat
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v206 : BitVec 32 := Scalar.addi v2 c4_i32_134
  let c8_i32_135 : BitVec 32 := 8#32
  let c0_i32_136 : BitVec 32 := 0#32
  let v207 : BitVec 1 := Scalar.cmpi .eq c8_i32_135 c0_i32_136
  let c1_i32_137 : BitVec 32 := 1#32
  let v208 : BitVec 32 := Scalar.select v207 c1_i32_137 c8_i32_135
  let v209 : BitVec 32 := Scalar.remsi v206 v208
  let c0_i32_139 : BitVec 32 := 0#32
  let v211 : BitVec 1 := Scalar.cmpi .slt v209 c0_i32_139
  let c0_i32_140 : BitVec 32 := 0#32
  let v212 : BitVec 1 := Scalar.cmpi .slt v208 c0_i32_140
  let v213 : BitVec 1 := Scalar.xori v211 v212
  let c0_i32_138 : BitVec 32 := 0#32
  let v210 : BitVec 1 := Scalar.cmpi .ne v209 c0_i32_138
  let v214 : BitVec 1 := Scalar.andi v213 v210
  let v215 : BitVec 32 := Scalar.addi v209 v208
  let v216 : BitVec 32 := Scalar.select v214 v215 v209
  let c1_i32_151 : BitVec 32 := 1#32
  let v232 : BitVec 32 := Scalar.muli v216 c1_i32_151
  let v233 : BitVec 32 := Scalar.addi c0_i32_152 v232
  v233.toNat
def k0_dev12 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_157 : BitVec 32 := 5#32
  let v242 : BitVec 32 := Scalar.addi v2 c5_i32_157
  let c8_i32_158 : BitVec 32 := 8#32
  let c0_i32_159 : BitVec 32 := 0#32
  let v243 : BitVec 1 := Scalar.cmpi .eq c8_i32_158 c0_i32_159
  let c1_i32_160 : BitVec 32 := 1#32
  let v244 : BitVec 32 := Scalar.select v243 c1_i32_160 c8_i32_158
  let v245 : BitVec 32 := Scalar.remsi v242 v244
  let c0_i32_162 : BitVec 32 := 0#32
  let v247 : BitVec 1 := Scalar.cmpi .slt v245 c0_i32_162
  let c0_i32_163 : BitVec 32 := 0#32
  let v248 : BitVec 1 := Scalar.cmpi .slt v244 c0_i32_163
  let v249 : BitVec 1 := Scalar.xori v247 v248
  let c0_i32_161 : BitVec 32 := 0#32
  let v246 : BitVec 1 := Scalar.cmpi .ne v245 c0_i32_161
  let v250 : BitVec 1 := Scalar.andi v249 v246
  let v251 : BitVec 32 := Scalar.addi v245 v244
  let v252 : BitVec 32 := Scalar.select v250 v251 v245
  let c1_i32_174 : BitVec 32 := 1#32
  let v268 : BitVec 32 := Scalar.muli v252 c1_i32_174
  let v269 : BitVec 32 := Scalar.addi c0_i32_175 v268
  v269.toNat
def k0_dev13 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_180 : BitVec 32 := 6#32
  let v278 : BitVec 32 := Scalar.addi v2 c6_i32_180
  let c8_i32_181 : BitVec 32 := 8#32
  let c0_i32_182 : BitVec 32 := 0#32
  let v279 : BitVec 1 := Scalar.cmpi .eq c8_i32_181 c0_i32_182
  let c1_i32_183 : BitVec 32 := 1#32
  let v280 : BitVec 32 := Scalar.select v279 c1_i32_183 c8_i32_181
  let v281 : BitVec 32 := Scalar.remsi v278 v280
  let c0_i32_185 : BitVec 32 := 0#32
  let v283 : BitVec 1 := Scalar.cmpi .slt v281 c0_i32_185
  let c0_i32_186 : BitVec 32 := 0#32
  let v284 : BitVec 1 := Scalar.cmpi .slt v280 c0_i32_186
  let v285 : BitVec 1 := Scalar.xori v283 v284
  let c0_i32_184 : BitVec 32 := 0#32
  let v282 : BitVec 1 := Scalar.cmpi .ne v281 c0_i32_184
  let v286 : BitVec 1 := Scalar.andi v285 v282
  let v287 : BitVec 32 := Scalar.addi v281 v280
  let v288 : BitVec 32 := Scalar.select v286 v287 v281
  let c1_i32_197 : BitVec 32 := 1#32
  let v304 : BitVec 32 := Scalar.muli v288 c1_i32_197
  let v305 : BitVec 32 := Scalar.addi c0_i32_198 v304
  v305.toNat
def k0_dev14 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_203 : BitVec 32 := 7#32
  let v314 : BitVec 32 := Scalar.addi v2 c7_i32_203
  let c8_i32_204 : BitVec 32 := 8#32
  let c0_i32_205 : BitVec 32 := 0#32
  let v315 : BitVec 1 := Scalar.cmpi .eq c8_i32_204 c0_i32_205
  let c1_i32_206 : BitVec 32 := 1#32
  let v316 : BitVec 32 := Scalar.select v315 c1_i32_206 c8_i32_204
  let v317 : BitVec 32 := Scalar.remsi v314 v316
  let c0_i32_208 : BitVec 32 := 0#32
  let v319 : BitVec 1 := Scalar.cmpi .slt v317 c0_i32_208
  let c0_i32_209 : BitVec 32 := 0#32
  let v320 : BitVec 1 := Scalar.cmpi .slt v316 c0_i32_209
  let v321 : BitVec 1 := Scalar.xori v319 v320
  let c0_i32_207 : BitVec 32 := 0#32
  let v318 : BitVec 1 := Scalar.cmpi .ne v317 c0_i32_207
  let v322 : BitVec 1 := Scalar.andi v321 v318
  let v323 : BitVec 32 := Scalar.addi v317 v316
  let v324 : BitVec 32 := Scalar.select v322 v323 v317
  let c1_i32_220 : BitVec 32 := 1#32
  let v340 : BitVec 32 := Scalar.muli v324 c1_i32_220
  let v341 : BitVec 32 := Scalar.addi c0_i32_221 v340
  v341.toNat
def k0_off2 (d0 : Dev nD) : Fin 2 → Nat :=
  let c0_227 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_226 : BitVec 32 := 256#32
  let v350 : BitVec 32 := Scalar.muli v2 c256_i32_226
  let v351 : Index := Scalar.indexCast v350
  ![0, v351.toNat]
def k0_dev15 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v369 : BitVec 32 := Scalar.addi v2 c1_i32_234
  let c8_i32_235 : BitVec 32 := 8#32
  let c0_i32_236 : BitVec 32 := 0#32
  let v370 : BitVec 1 := Scalar.cmpi .eq c8_i32_235 c0_i32_236
  let c1_i32_237 : BitVec 32 := 1#32
  let v371 : BitVec 32 := Scalar.select v370 c1_i32_237 c8_i32_235
  let v372 : BitVec 32 := Scalar.remsi v369 v371
  let c0_i32_239 : BitVec 32 := 0#32
  let v374 : BitVec 1 := Scalar.cmpi .slt v372 c0_i32_239
  let c0_i32_240 : BitVec 32 := 0#32
  let v375 : BitVec 1 := Scalar.cmpi .slt v371 c0_i32_240
  let v376 : BitVec 1 := Scalar.xori v374 v375
  let c0_i32_238 : BitVec 32 := 0#32
  let v373 : BitVec 1 := Scalar.cmpi .ne v372 c0_i32_238
  let v377 : BitVec 1 := Scalar.andi v376 v373
  let v378 : BitVec 32 := Scalar.addi v372 v371
  let v379 : BitVec 32 := Scalar.select v377 v378 v372
  let c1_i32_243 : BitVec 32 := 1#32
  let v380 : BitVec 32 := Scalar.muli v379 c1_i32_243
  let v381 : BitVec 32 := Scalar.addi c0_i32_244 v380
  v381.toNat
def k0_dev16 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_247 : BitVec 32 := 2#32
  let v387 : BitVec 32 := Scalar.addi v2 c2_i32_247
  let c8_i32_248 : BitVec 32 := 8#32
  let c0_i32_249 : BitVec 32 := 0#32
  let v388 : BitVec 1 := Scalar.cmpi .eq c8_i32_248 c0_i32_249
  let c1_i32_250 : BitVec 32 := 1#32
  let v389 : BitVec 32 := Scalar.select v388 c1_i32_250 c8_i32_248
  let v390 : BitVec 32 := Scalar.remsi v387 v389
  let c0_i32_252 : BitVec 32 := 0#32
  let v392 : BitVec 1 := Scalar.cmpi .slt v390 c0_i32_252
  let c0_i32_253 : BitVec 32 := 0#32
  let v393 : BitVec 1 := Scalar.cmpi .slt v389 c0_i32_253
  let v394 : BitVec 1 := Scalar.xori v392 v393
  let c0_i32_251 : BitVec 32 := 0#32
  let v391 : BitVec 1 := Scalar.cmpi .ne v390 c0_i32_251
  let v395 : BitVec 1 := Scalar.andi v394 v391
  let v396 : BitVec 32 := Scalar.addi v390 v389
  let v397 : BitVec 32 := Scalar.select v395 v396 v390
  let c1_i32_256 : BitVec 32 := 1#32
  let v398 : BitVec 32 := Scalar.muli v397 c1_i32_256
  let v399 : BitVec 32 := Scalar.addi c0_i32_257 v398
  v399.toNat
def k0_dev17 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_260 : BitVec 32 := 3#32
  let v405 : BitVec 32 := Scalar.addi v2 c3_i32_260
  let c8_i32_261 : BitVec 32 := 8#32
  let c0_i32_262 : BitVec 32 := 0#32
  let v406 : BitVec 1 := Scalar.cmpi .eq c8_i32_261 c0_i32_262
  let c1_i32_263 : BitVec 32 := 1#32
  let v407 : BitVec 32 := Scalar.select v406 c1_i32_263 c8_i32_261
  let v408 : BitVec 32 := Scalar.remsi v405 v407
  let c0_i32_265 : BitVec 32 := 0#32
  let v410 : BitVec 1 := Scalar.cmpi .slt v408 c0_i32_265
  let c0_i32_266 : BitVec 32 := 0#32
  let v411 : BitVec 1 := Scalar.cmpi .slt v407 c0_i32_266
  let v412 : BitVec 1 := Scalar.xori v410 v411
  let c0_i32_264 : BitVec 32 := 0#32
  let v409 : BitVec 1 := Scalar.cmpi .ne v408 c0_i32_264
  let v413 : BitVec 1 := Scalar.andi v412 v409
  let v414 : BitVec 32 := Scalar.addi v408 v407
  let v415 : BitVec 32 := Scalar.select v413 v414 v408
  let c1_i32_269 : BitVec 32 := 1#32
  let v416 : BitVec 32 := Scalar.muli v415 c1_i32_269
  let v417 : BitVec 32 := Scalar.addi c0_i32_270 v416
  v417.toNat
def k0_dev18 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_273 : BitVec 32 := 4#32
  let v423 : BitVec 32 := Scalar.addi v2 c4_i32_273
  let c8_i32_274 : BitVec 32 := 8#32
  let c0_i32_275 : BitVec 32 := 0#32
  let v424 : BitVec 1 := Scalar.cmpi .eq c8_i32_274 c0_i32_275
  let c1_i32_276 : BitVec 32 := 1#32
  let v425 : BitVec 32 := Scalar.select v424 c1_i32_276 c8_i32_274
  let v426 : BitVec 32 := Scalar.remsi v423 v425
  let c0_i32_278 : BitVec 32 := 0#32
  let v428 : BitVec 1 := Scalar.cmpi .slt v426 c0_i32_278
  let c0_i32_279 : BitVec 32 := 0#32
  let v429 : BitVec 1 := Scalar.cmpi .slt v425 c0_i32_279
  let v430 : BitVec 1 := Scalar.xori v428 v429
  let c0_i32_277 : BitVec 32 := 0#32
  let v427 : BitVec 1 := Scalar.cmpi .ne v426 c0_i32_277
  let v431 : BitVec 1 := Scalar.andi v430 v427
  let v432 : BitVec 32 := Scalar.addi v426 v425
  let v433 : BitVec 32 := Scalar.select v431 v432 v426
  let c1_i32_282 : BitVec 32 := 1#32
  let v434 : BitVec 32 := Scalar.muli v433 c1_i32_282
  let v435 : BitVec 32 := Scalar.addi c0_i32_283 v434
  v435.toNat
def k0_dev19 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_286 : BitVec 32 := 5#32
  let v441 : BitVec 32 := Scalar.addi v2 c5_i32_286
  let c8_i32_287 : BitVec 32 := 8#32
  let c0_i32_288 : BitVec 32 := 0#32
  let v442 : BitVec 1 := Scalar.cmpi .eq c8_i32_287 c0_i32_288
  let c1_i32_289 : BitVec 32 := 1#32
  let v443 : BitVec 32 := Scalar.select v442 c1_i32_289 c8_i32_287
  let v444 : BitVec 32 := Scalar.remsi v441 v443
  let c0_i32_291 : BitVec 32 := 0#32
  let v446 : BitVec 1 := Scalar.cmpi .slt v444 c0_i32_291
  let c0_i32_292 : BitVec 32 := 0#32
  let v447 : BitVec 1 := Scalar.cmpi .slt v443 c0_i32_292
  let v448 : BitVec 1 := Scalar.xori v446 v447
  let c0_i32_290 : BitVec 32 := 0#32
  let v445 : BitVec 1 := Scalar.cmpi .ne v444 c0_i32_290
  let v449 : BitVec 1 := Scalar.andi v448 v445
  let v450 : BitVec 32 := Scalar.addi v444 v443
  let v451 : BitVec 32 := Scalar.select v449 v450 v444
  let c1_i32_295 : BitVec 32 := 1#32
  let v452 : BitVec 32 := Scalar.muli v451 c1_i32_295
  let v453 : BitVec 32 := Scalar.addi c0_i32_296 v452
  v453.toNat
def k0_dev20 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_299 : BitVec 32 := 6#32
  let v459 : BitVec 32 := Scalar.addi v2 c6_i32_299
  let c8_i32_300 : BitVec 32 := 8#32
  let c0_i32_301 : BitVec 32 := 0#32
  let v460 : BitVec 1 := Scalar.cmpi .eq c8_i32_300 c0_i32_301
  let c1_i32_302 : BitVec 32 := 1#32
  let v461 : BitVec 32 := Scalar.select v460 c1_i32_302 c8_i32_300
  let v462 : BitVec 32 := Scalar.remsi v459 v461
  let c0_i32_304 : BitVec 32 := 0#32
  let v464 : BitVec 1 := Scalar.cmpi .slt v462 c0_i32_304
  let c0_i32_305 : BitVec 32 := 0#32
  let v465 : BitVec 1 := Scalar.cmpi .slt v461 c0_i32_305
  let v466 : BitVec 1 := Scalar.xori v464 v465
  let c0_i32_303 : BitVec 32 := 0#32
  let v463 : BitVec 1 := Scalar.cmpi .ne v462 c0_i32_303
  let v467 : BitVec 1 := Scalar.andi v466 v463
  let v468 : BitVec 32 := Scalar.addi v462 v461
  let v469 : BitVec 32 := Scalar.select v467 v468 v462
  let c1_i32_308 : BitVec 32 := 1#32
  let v470 : BitVec 32 := Scalar.muli v469 c1_i32_308
  let v471 : BitVec 32 := Scalar.addi c0_i32_309 v470
  v471.toNat
def k0_dev21 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_312 : BitVec 32 := 7#32
  let v477 : BitVec 32 := Scalar.addi v2 c7_i32_312
  let c8_i32_313 : BitVec 32 := 8#32
  let c0_i32_314 : BitVec 32 := 0#32
  let v478 : BitVec 1 := Scalar.cmpi .eq c8_i32_313 c0_i32_314
  let c1_i32_315 : BitVec 32 := 1#32
  let v479 : BitVec 32 := Scalar.select v478 c1_i32_315 c8_i32_313
  let v480 : BitVec 32 := Scalar.remsi v477 v479
  let c0_i32_317 : BitVec 32 := 0#32
  let v482 : BitVec 1 := Scalar.cmpi .slt v480 c0_i32_317
  let c0_i32_318 : BitVec 32 := 0#32
  let v483 : BitVec 1 := Scalar.cmpi .slt v479 c0_i32_318
  let v484 : BitVec 1 := Scalar.xori v482 v483
  let c0_i32_316 : BitVec 32 := 0#32
  let v481 : BitVec 1 := Scalar.cmpi .ne v480 c0_i32_316
  let v485 : BitVec 1 := Scalar.andi v484 v481
  let v486 : BitVec 32 := Scalar.addi v480 v479
  let v487 : BitVec 32 := Scalar.select v485 v486 v480
  let c1_i32_321 : BitVec 32 := 1#32
  let v488 : BitVec 32 := Scalar.muli v487 c1_i32_321
  let v489 : BitVec 32 := Scalar.addi c0_i32_322 v488
  v489.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v601 : BitVec 32 := Scalar.muli v2 c512_i32
  let v602 : Index := Scalar.indexCast v601
  let c0_444 : Index := 0#32
  ![v602.toNat, 0]
def k0_off4 (d0 : Dev nD) (c1_i32_445 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v604 : BitVec 32 := Scalar.subi v2 c1_i32_445
  let c8_i32_446 : BitVec 32 := 8#32
  let c0_i32_447 : BitVec 32 := 0#32
  let v605 : BitVec 1 := Scalar.cmpi .eq c8_i32_446 c0_i32_447
  let c1_i32_448 : BitVec 32 := 1#32
  let v606 : BitVec 32 := Scalar.select v605 c1_i32_448 c8_i32_446
  let v607 : BitVec 32 := Scalar.remsi v604 v606
  let c0_i32_450 : BitVec 32 := 0#32
  let v609 : BitVec 1 := Scalar.cmpi .slt v607 c0_i32_450
  let c0_i32_451 : BitVec 32 := 0#32
  let v610 : BitVec 1 := Scalar.cmpi .slt v606 c0_i32_451
  let v611 : BitVec 1 := Scalar.xori v609 v610
  let c0_i32_449 : BitVec 32 := 0#32
  let v608 : BitVec 1 := Scalar.cmpi .ne v607 c0_i32_449
  let v612 : BitVec 1 := Scalar.andi v611 v608
  let v613 : BitVec 32 := Scalar.addi v607 v606
  let v614 : BitVec 32 := Scalar.select v612 v613 v607
  let c512_i32_455 : BitVec 32 := 512#32
  let v623 : BitVec 32 := Scalar.muli v614 c512_i32_455
  let v624 : Index := Scalar.indexCast v623
  let c0_456 : Index := 0#32
  ![v624.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdealForm.lean ====
/-
The kernel body, written as seven-fold repetitions.

The printed body is one straight line of about a hundred and twenty operations: every loop over the
seven other devices is unrolled. Here each loop body is written once, as a function of the step
number `j : Fin 7`, and `seven` runs it at 0, 1, …, 6; `body_form` says that the printed body is that.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

/-- A TensorCore program of this kernel. -/
abbrev Pg (F : FTy → Type) [FloatOps F] : Type 1 := Prog (TpuEff nD τ sig (Elt F) Λ₀ .tc) PUnit

/-! ## The buffers, their slots and the semaphores -/

abbrev xM : Memref sig .tc .vmem S512x4096 .f32 := Memref.whole cc0_stg0_0
abbrev wM : Memref sig .tc .vmem S4096x2048 .f32 := Memref.whole cc0_stg1_0
abbrev oM : Memref sig .tc .vmem S4096x256 .f32 := Memref.whole cc0_stg2_0
/-- The eight products this device computes: seven to send, the last its own. -/
abbrev sM : Memref sig .tc .vmem S8x512x256 .f32 := Memref.whole cc0_scratch0
/-- The seven products the other devices send. -/
abbrev rM : Memref sig .tc .vmem S7x512x256 .f32 := Memref.whole cc0_scratch1
/-- This device's largest absolute value, one row. -/
abbrev aM : Memref sig .tc .vmem S1x128 .f32 := Memref.whole cc0_scratch2
/-- The other devices' largest absolute values, a row each. -/
abbrev bM : Memref sig .tc .vmem S7x128 .f32 := Memref.whole cc0_scratch3

theorem slot8_inb (j : Fin 8) : ∀ a, (![j.val, 0, 0] : Fin 3 → Nat) a + S1x512x256.size a ≤ S8x512x256.size a := by
  revert j; decide
theorem slot7_inb (j : Fin 7) : ∀ a, (![j.val, 0, 0] : Fin 3 → Nat) a + S1x512x256.size a ≤ S7x512x256.size a := by
  revert j; decide
theorem row_inb (j : Fin 7) : ∀ a, (![j.val, 0] : Fin 2 → Nat) a + S1x128.size a ≤ S7x128.size a := by
  revert j; decide
theorem sem_inb (j : Fin 7) : ∀ a, (![j.val] : Fin 1 → Nat) a + S1.size a ≤ S7.size a := by
  revert j; decide

abbrev slot8 (j : Fin 8) : Rect S8x512x256 := Rect.unit (s := S8x512x256) ![j.val, 0, 0] S1x512x256.size (slot8_inb j)
abbrev slot7 (j : Fin 7) : Rect S7x512x256 := Rect.unit (s := S7x512x256) ![j.val, 0, 0] S1x512x256.size (slot7_inb j)
abbrev row7 (j : Fin 7) : Rect S7x128 := Rect.unit (s := S7x128) ![j.val, 0] S1x128.size (row_inb j)

/-- Slot `j` of the products to send, as a matrix; -/
abbrev sSlot (j : Fin 8) : Memref sig .tc .vmem S512x256 .f32 :=
  (sM.slice (slot8 j) (fun _ => rfl)).squeeze S512x256 squeezes_S1x512x256_S512x256
/-- slot `j` of the products received; -/
abbrev rSlot (j : Fin 7) : Memref sig .tc .vmem S512x256 .f32 :=
  (rM.slice (slot7 j) (fun _ => rfl)).squeeze S512x256 squeezes_S1x512x256_S512x256
/-- row `j` of the largest values received. -/
abbrev bRow (j : Fin 7) : Memref sig .tc .vmem S1x128 .f32 := bM.slice (row7 j) (fun _ => rfl)

abbrev semAt (a : DmaSems sig S7) (j : Fin 7) : DmaSem sig :=
  ((a.slice (Rect.unit (s := S7) ![j.val] S1.size (sem_inb j))).squeeze S_ squeezes_S1_S_).sem

abbrev barS : Sem sig := (SemArray.scalar (sig.barrier 0 rfl) : Sems sig S_).sem

/-- The step number `j` counts the device `j + 1` places on. -/
abbrev offW (j : Fin 7) : BitVec 32 := BitVec.ofNat 32 (1 + j.val)

/-! ## The devices addressed -/

/-- The device step `j` signals, -/
abbrev sigDev (d : Dev nD) : Fin 7 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩]
/-- sends its product to -/
abbrev yDev (d : Dev nD) : Fin 7 → Dev nD :=
  ![⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩]
/-- and its largest absolute value to. -/
abbrev aDev (d : Dev nD) : Fin 7 → Dev nD :=
  ![⟨k0_dev15 d, k0_dev15_lt d⟩, ⟨k0_dev16 d, k0_dev16_lt d⟩, ⟨k0_dev17 d, k0_dev17_lt d⟩, ⟨k0_dev18 d, k0_dev18_lt d⟩,
    ⟨k0_dev19 d, k0_dev19_lt d⟩, ⟨k0_dev20 d, k0_dev20_lt d⟩, ⟨k0_dev21 d, k0_dev21_lt d⟩]

theorem off1_inb (d : Dev nD) (j : Fin 7) : ∀ a, k0_off1 d (offW j) a + S4096x256.size a ≤ S4096x2048.size a := k0_off1_inb d j
theorem off4_inb (d : Dev nD) (j : Fin 7) : ∀ a, k0_off4 d (offW j) a + S512x256.size a ≤ S4096x256.size a := k0_off4_inb d j

/-- The columns of `w` that step `j` multiplies by, -/
abbrev wCol (d : Dev nD) (j : Fin 7) : Rect S4096x2048 := Rect.unit (s := S4096x2048) (k0_off1 d (offW j)) S4096x256.size (off1_inb d j)
/-- and the ones this device keeps; -/
abbrev wOwn (d : Dev nD) : Rect S4096x2048 := Rect.unit (s := S4096x2048) (k0_off2 d) S4096x256.size (k0_off2_inb d)
/-- the rows of the result that step `j` fills, -/
abbrev oRows (d : Dev nD) (j : Fin 7) : Rect S4096x256 := Rect.unit (s := S4096x256) (k0_off4 d (offW j)) S512x256.size (off4_inb d j)
/-- and the ones this device's own product fills. -/
abbrev oOwn (d : Dev nD) : Rect S4096x256 := Rect.unit (s := S4096x256) (k0_off3 d) S512x256.size (k0_off3_inb d)

abbrev xAll : Rect S512x4096 := Rect.unit (s := S512x4096) ![0, 0] S512x4096.size inb_S512x4096_S512x4096_0_0
abbrev aAll : Rect S1x128 := Rect.unit (s := S1x128) ![0, 0] S1x128.size inb_S1x128_S1x128_0_0
abbrev bAll : Rect S7x128 := Rect.unit (s := S7x128) ![0, 0] S7x128.size inb_S7x128_S7x128_0_0

/-! ## The steps -/

/-- `step` at 0, 1, …, 6, a value threaded through, then `k`. -/
def seven {S : Type} (step : Fin 7 → S → (S → Pg F) → Pg F) (s : S) (k : S → Pg F) : Pg F :=
  step 0 s fun s => step 1 s fun s => step 2 s fun s => step 3 s fun s => step 4 s fun s => step 5 s fun s => step 6 s k

/-- Tell the device `j + 1` places on that this one's landing slots are free. -/
abbrev signalStep (d : Dev nD) (j : Fin 7) (_ : Unit) (k : Unit → Pg F) : Pg F :=
  .op (.semSignal ((sigDev d j, .tc) : Thread nD τ) barS (1#32).toInt) fun _ => k ()

/-- Multiply by the columns of the device `j + 1` places on, keep the product in slot `j`, send it there, and take its
    largest absolute value into the running one. -/
abbrev prodStep (d : Dev nD) (xv : FVec F S512x4096 .bf16) (j : Fin 7) (a : F .f32) (k : F .f32 → Pg F) : Pg F :=
  .op (.load wM (wCol d j).toLoadRect (View.loadsAt_vmem h_S4096x256)) fun w : Vec F S4096x256 .f32 =>
  .op (.load sM (slot8 j.castSucc).toLoadRect (View.loadsAt_vmem h_S1x512x256)) fun _ =>
  .op (.store sM (slot8 j.castSucc) (k0_pay7 xv w) Finset.univ (View.stores_vmem_bits_univ h_S1x512x256 rfl) (.inl rfl)) fun _ =>
  .op (.enqueueDma (sSlot j.castSucc) (.remote (Dev.tc (yDev d j)) (rSlot j) (.dma (semAt cc0_scratch4 j))) (.dma (semAt cc0_scratch5 j))
    ((View.wordExact_bits rfl).reshape _ _) ((View.wordExact_bits rfl).reshape _ _) ⟨⟨rfl, Or.inl rfl⟩, trivial⟩) fun _ =>
  k (k0_pay6 xv a w)

/-- Send this device's largest absolute value to the device `j + 1` places on. -/
abbrev maxStep (d : Dev nD) (j : Fin 7) (_ : Unit) (k : Unit → Pg F) : Pg F :=
  .op (.enqueueDma aM (.remote (Dev.tc (aDev d j)) (bRow j) (.dma (semAt cc0_scratch6 j))) (.dma (semAt cc0_scratch7 j))
    (Memref.isWhole_whole _).wordExact (View.wordExact_bits rfl) ⟨⟨rfl, Or.inl rfl⟩, trivial⟩) fun _ => k ()

/-- Wait for row `j` of the largest values. -/
abbrev maxWait (j : Fin 7) (_ : Unit) (k : Unit → Pg F) : Pg F :=
  .op (.waitDma2 (semAt cc0_scratch7 j) aM (bRow j) (Memref.isWhole_whole _).wordExact (View.wordExact_bits rfl)) fun _ => k ()

/-- Wait for slot `j` of the products. -/
abbrev prodWait (j : Fin 7) (_ : Unit) (k : Unit → Pg F) : Pg F :=
  .op (.waitDma2 (semAt cc0_scratch5 j) (sSlot j.castSucc) (rSlot j) ((View.wordExact_bits rfl).reshape _ _) ((View.wordExact_bits rfl).reshape _ _))
    fun _ => k ()

/-- Quantise slot `j` and write its rows of the result. -/
abbrev outStep (d : Dev nD) (scale : F .f32) (j : Fin 7) (_ : Unit) (k : Unit → Pg F) : Pg F :=
  .op (.load rM (slot7 j).toLoadRect (View.loadsAt_vmem h_S1x512x256)) fun y : Vec F S1x512x256 .f32 =>
  .op (.load oM (oRows d j).toLoadRect (View.loadsAt_vmem h_S512x256)) fun _ =>
  .op (.store oM (oRows d j) (k0_pay31 scale y) Finset.univ (View.stores_vmem_bits_univ h_S512x256 rfl) (.inl rfl)) fun _ => k ()

/-- Wait until slot `j` of the products has been read. -/
abbrev prodSent (j : Fin 7) (_ : Unit) (k : Unit → Pg F) : Pg F :=
  .op (.waitDma2 (semAt cc0_scratch4 j) (rSlot j) (sSlot j.castSucc) ((View.wordExact_bits rfl).reshape _ _) ((View.wordExact_bits rfl).reshape _ _))
    fun _ => k ()

/-- Wait until the largest value has been read for the device `j + 1` places on. -/
abbrev maxSent (j : Fin 7) (_ : Unit) (k : Unit → Pg F) : Pg F :=
  .op (.waitDma2 (semAt cc0_scratch6 j) (bRow j) aM (View.wordExact_bits rfl) (Memref.isWhole_whole _).wordExact) fun _ => k ()

/-- This device's own product: kept in the last slot, its largest absolute value taken into the running one, and the
    result left for the others to read. -/
abbrev ownStep (d : Dev nD) (xv : FVec F S512x4096 .bf16) (a : F .f32) (k : F .f32 → Pg F) : Pg F :=
  .op (.load wM (wOwn d).toLoadRect (View.loadsAt_vmem h_S4096x256)) fun w : Vec F S4096x256 .f32 =>
  .op (.load sM (slot8 7).toLoadRect (View.loadsAt_vmem h_S1x512x256)) fun _ =>
  .op (.store sM (slot8 7) (k0_pay7 xv w) Finset.univ (View.stores_vmem_bits_univ h_S1x512x256 rfl) (.inl rfl)) fun _ =>
  .op (.load aM aAll.toLoadRect (View.loadsAt_vmem h_S1x128)) fun _ =>
  .op (.store aM aAll (k0_pay26 xv a w) Finset.univ (View.stores_vmem_bits_univ h_S1x128 rfl) (.inl rfl)) fun _ =>
  k (k0_pay6 xv a w)

/-- The scale from all eight largest values, and this device's own rows of the result. -/
abbrev scaleStep (d : Dev nD) (a : F .f32) (k : F .f32 → Pg F) : Pg F :=
  .op (.load bM bAll.toLoadRect (View.loadsAt_vmem h_S7x128)) fun b : Vec F S7x128 .f32 =>
  .op (.load sM (slot8 7).toLoadRect (View.loadsAt_vmem h_S1x512x256)) fun y : Vec F S1x512x256 .f32 =>
  .op (.load oM (oOwn d).toLoadRect (View.loadsAt_vmem h_S512x256)) fun _ =>
  .op (.store oM (oOwn d) (k0_pay31 (k0_pay27 a b) y) Finset.univ (View.stores_vmem_bits_univ h_S512x256 rfl) (.inl rfl)) fun _ =>
  k (k0_pay27 a b)

/-- The whole body. -/
def form : Pg F :=
  .op .deviceId fun d =>
  seven (signalStep d) () fun _ =>
  .op (.semWait barS (7#32).toInt) fun _ =>
  .op (.load xM xAll.toLoadRect (View.loadsAt_vmem h_S512x4096)) fun x : Vec F S512x4096 .f32 =>
  seven (prodStep d (k0_pay1 x)) (Scalar.ofBits .f32 0x00000000#32) fun a =>
  ownStep d (k0_pay1 x) a fun a =>
  seven (maxStep d) () fun _ =>
  seven maxWait () fun _ =>
  seven prodWait () fun _ =>
  scaleStep d a fun scale =>
  seven (outStep d scale) () fun _ =>
  seven prodSent () fun _ =>
  seven maxSent () fun _ => .ret ⟨⟩

set_option maxRecDepth 65536 in
/-- The printed body is its form. -/
theorem body_form : cc0_body (F := F) xM (Memref.isWhole_whole _) wM (Memref.isWhole_whole _) oM (Memref.isWhole_whole _)
    sM (Memref.isWhole_whole _) rM (Memref.isWhole_whole _) aM (Memref.isWhole_whole _) bM (Memref.isWhole_whole _)
    cc0_scratch4 cc0_scratch5 cc0_scratch6 cc0_scratch7 = form (F := F) := rfl

end Cert.KernelIdealProof

end
-- ==== Proof.KernelIdealSched.lean ====
/-
Who waits for whom, and what each landing hands over.

Every device has twenty-nine semaphores. Its BARRIER is raised once by each of the other seven devices: the one
`j + 1` places on says with its unit that the slot and the row of ITS landing buffers this device will write are
free, and hands them over. For each step `j` there are four transfer semaphores: the product's copy has been READ
(the sent slot comes back), a product has LANDED (the slot comes with the product of the device `j + 1` places
back), and the same two for the largest absolute values. Each is awaited once, for everything.
-/
module

public import proofs.«01_k».proof.Proof.KernelIdealForm
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of one round of a barrier: one for each of the other devices. -/
abbrev Dty : Type := Fin 7
abbrev UB : Type := URounds (GSem nD τ sig) Dty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The other devices -/

/-- The device `j + 1` places on, around the ring of eight. -/
def peer (c : Dev nD) (j : Fin 7) : Dev nD := ⟨(c.val + j.val + 1) % 8, Nat.mod_lt _ (by decide)⟩

/-- Going `j + 1` places on and then the rest of the way round comes back. -/
theorem peer_rev (c : Dev nD) (j : Fin 7) : peer (peer c j) j.rev = c := by revert c j; decide
theorem rev_peer (c : Dev nD) (j : Fin 7) : peer (peer c j.rev) j = c := by revert c j; decide

/-- A step around the ring, as a permutation of the devices. -/
def turn (j : Fin 7) : Dev nD ≃ Dev nD := ⟨fun c => peer c j, fun c => peer c j.rev, fun c => peer_rev c j, fun c => rev_peer c j⟩

theorem sigDev_eq (c : Dev nD) (j : Fin 7) : sigDev c j = peer c j := by revert c j; decide +kernel
theorem yDev_eq (c : Dev nD) (j : Fin 7) : yDev c j = peer c j := by revert c j; decide +kernel
theorem aDev_eq (c : Dev nD) (j : Fin 7) : aDev c j = peer c j := by revert c j; decide +kernel

/-! ## The cells -/

abbrev barCell (c : Dev nD) : GSem nD τ sig := ((c : Thread nD τ), .reg barS)
/-- Transfer semaphore `j` of kind `k`: 0 a product read, 1 a product landed, 2 a largest value read, 3 one landed. -/
def dsem (k : Fin 4) (j : Fin 7) : DmaSem sig := ⟨3 + 7 * k.val + j.val, by have := k.isLt; have := j.isLt; show _ < 31; omega⟩
abbrev dcell (k : Fin 4) (j : Fin 7) (c : Dev nD) : GSem nD τ sig := ((c : Thread nD τ), .dma (dsem k j))

theorem semS_eq (j : Fin 7) : semAt cc0_scratch4 j = dsem 0 j := by revert j; decide
theorem semR_eq (j : Fin 7) : semAt cc0_scratch5 j = dsem 1 j := by revert j; decide
theorem semA_eq (j : Fin 7) : semAt cc0_scratch6 j = dsem 2 j := by revert j; decide
theorem semB_eq (j : Fin 7) : semAt cc0_scratch7 j = dsem 3 j := by revert j; decide

theorem dsem_injective : Function.Injective (fun kj : Fin 4 × Fin 7 => dsem kj.1 kj.2) := by decide

/-- The kernel's own semaphores, -/
abbrev osem : Fin 4 × Fin 7 → SemLoc sig := fun kj => .dma (dsem kj.1 kj.2)
/-- and the barrier with them. -/
abbrev csem : Unit ⊕ (Fin 4 × Fin 7) → SemLoc sig := fun | .inl _ => .reg barS | .inr kj => .dma (dsem kj.1 kj.2)
abbrev kcell (ck : Dev nD × (Unit ⊕ (Fin 4 × Fin 7))) : GSem nD τ sig := ((ck.1 : Thread nD τ), csem ck.2)

/-- Which transfer semaphore a number is, if it is one of the kernel's own. -/
def kindOf (q : DmaSem sig) : Fin 4 := ⟨(q.val - 3) / 7 % 4, Nat.mod_lt _ (by decide)⟩
def stepOf (q : DmaSem sig) : Fin 7 := ⟨(q.val - 3) % 7, Nat.mod_lt _ (by decide)⟩
theorem kindOf_dsem (k : Fin 4) (j : Fin 7) : kindOf (dsem k j) = k := by revert k j; decide
theorem stepOf_dsem (k : Fin 4) (j : Fin 7) : stepOf (dsem k j) = j := by revert k j; decide
theorem own_dsem (k : Fin 4) (j : Fin 7) : 3 ≤ (dsem k j).val := by revert k j; decide

/-- What the transfer of a product credits, and of a row. -/
abbrev NY : ℕ := (rSlot 0 : Memref sig .tc .vmem S512x256 .f32).view.dmaCredit
abbrev NA : ℕ := (aM : Memref sig .tc .vmem S1x128 .f32).view.dmaCredit
theorem NY_pos : 0 < NY := View.dmaCredit_pos _ (by decide)
theorem NA_pos : 0 < NA := View.dmaCredit_pos _ (by decide)
theorem credit_s (j : Fin 8) : (sSlot j : Memref sig .tc .vmem S512x256 .f32).view.dmaCredit = NY := rfl
theorem credit_r (j : Fin 7) : (rSlot j : Memref sig .tc .vmem S512x256 .f32).view.dmaCredit = NY := rfl
theorem credit_b (j : Fin 7) : (bRow j : Memref sig .tc .vmem S1x128 .f32).view.dmaCredit = NA := rfl

/-- What a transfer of kind `k` credits. -/
def kAmount (k : Fin 4) : ℕ := if k.val < 2 then NY else NA
theorem kAmount_0 : kAmount 0 = NY := if_pos (by decide)
theorem kAmount_1 : kAmount 1 = NY := if_pos (by decide)
theorem kAmount_2 : kAmount 2 = NA := if_neg (by decide)
theorem kAmount_3 : kAmount 3 = NA := if_neg (by decide)
theorem kAmount_pos (k : Fin 4) : 0 < kAmount k := by unfold kAmount; split; exacts [NY_pos, NA_pos]

/-! ## Contents -/

/-- This device's rows of `x`, -/
def xs (c : Dev nD) : (cc0_stg0_0 : Ref sig .tc).ty.Contents (Elt F) :=
  (win0_0.blk (0 : Fin 1)).view.read (Elt F) ((s₀ m ρ).mem ((c : Thread nD τ).loc main_arg0))
/-- and its copy of `w`. -/
def ws (c : Dev nD) : (cc0_stg1_0 : Ref sig .tc).ty.Contents (Elt F) :=
  (win0_1.blk (0 : Fin 1)).view.read (Elt F) ((s₀ m ρ).mem ((c : Thread nD τ).loc main_arg1))

/-- The columns of `w` that device `t` keeps. -/
def colsOf (w : Vec F S4096x2048 .f32) (t : Dev nD) : Vec F S4096x256 .f32 := fun i =>
  w (fun a => match a with
    | ⟨0, _⟩ => (⟨(i 0).val, (i 0).isLt⟩ : Fin 4096)
    | ⟨1, _⟩ => (⟨256 * t.val + (i 1).val, by have h1 : (i 1).val < 256 := (i 1).isLt; have h2 : t.val < 8 := t.isLt; omega⟩ : Fin 2048))

/-- The product device `c` computes for device `t`, as stored and -/
def prodV (c t : Dev nD) : FVec F S1x512x256 .f32 := k0_pay7 (k0_pay1 (xs m ρ c)) (colsOf (ws m ρ c) t)
/-- as a matrix. -/
def prod (c t : Dev nD) : FVec F S512x256 .f32 := shapeCast S512x256 (prodV m ρ c t) shapeCasts_S1x512x256_S512x256

/-- The largest absolute value so far after the first `n` products. -/
def runMax (c : Dev nD) : ℕ → F .f32
  | 0 => Scalar.ofBits .f32 0x00000000#32
  | n + 1 => if h : n < 7 then k0_pay6 (k0_pay1 (xs m ρ c)) (runMax c n) (colsOf (ws m ρ c) (peer c ⟨n, h⟩)) else runMax c n
/-- The largest absolute value of all eight products of device `c`. -/
def ownMax (c : Dev nD) : F .f32 := k0_pay6 (k0_pay1 (xs m ρ c)) (runMax m ρ c 7) (colsOf (ws m ρ c) c)
/-- The largest values as they land on device `c`: row `j` is that of the device `j + 1` places back. -/
def maxV (c : Dev nD) : Vec F S7x128 .f32 := fun i => ownMax m ρ (peer c (Fin.rev (i 0 : Fin 7)))
/-- The scale device `c` quantises by. -/
def scaleV (c : Dev nD) : F .f32 := k0_pay27 (ownMax m ρ c) (maxV m ρ c)

/-- The result on device `c`: rows `512 s` to `512 s + 511` are the quantised product of device `s`. -/
def outV (c : Dev nD) : (cc0_stg2_0 : Ref sig .tc).ty.Contents (Elt F) := fun i : S4096x256.Idx =>
  k0_pay31 (scaleV m ρ c)
    (prodV m ρ (⟨(i 0).val / 512, by have h : (i 0).val < 4096 := (i 0).isLt; show _ < 8; omega⟩ : Dev nD) c)
    (fun a => match a with
      | ⟨0, _⟩ => (⟨(i 0).val % 512, Nat.mod_lt _ (by decide)⟩ : Fin 512)
      | ⟨1, _⟩ => (⟨(i 1).val, (i 1).isLt⟩ : Fin 256))

/-! ## Holdings -/

abbrev sPts (c : Dev nD) (j : Fin 8) (X : Vec F S512x256 .f32) : sProp 𝕄 := owns (c : Thread nD τ) (sSlot j) fullShare X
abbrev rPts (c : Dev nD) (j : Fin 7) (X : Vec F S512x256 .f32) : sProp 𝕄 := owns (c : Thread nD τ) (rSlot j) fullShare X
abbrev bPts (c : Dev nD) (j : Fin 7) (X : Vec F S1x128 .f32) : sProp 𝕄 := owns (c : Thread nD τ) (bRow j) fullShare X
/-- A share of this device's largest value: one for each reader, and one left over. -/
abbrev aPts (c : Dev nD) (i : Fin 8) : sProp 𝕄 := owns (c : Thread nD τ) aM (ShareLeaves.leaf 3 fullShare i) (fun _ => ownMax m ρ c)

/-! ## The schedule -/

/-- What the device `j + 1` places on hands over with its signal: the slot and the row it lets device `c` write. -/
def barPay (c : Dev nD) (j : Fin 7) : sProp 𝕄 := iprop((∃ X, rPts (peer c j) j X) ∗ ∃ X, bPts (peer c j) j X)

/-- What a transfer of kind `k` hands device `c`. -/
def dmaPay (k : Fin 4) (j : Fin 7) (c : Dev nD) : sProp 𝕄 := match k with
  | 0 => sPts c j.castSucc (prod m ρ c (peer c j))
  | 1 => rPts c j (prod m ρ (peer c j.rev) c)
  | 2 => aPts m ρ c j.castSucc
  | 3 => bPts c j (fun _ => ownMax m ρ (peer c j.rev))

def sched : Rounds.Schedule (GSem nD τ sig) Dty 𝕄 where
  duties g r := if r = 0 then (match g.2 with | .reg _ => Finset.univ | .dma _ => {0}) else ∅
  amount g _ _ := match g.2 with | .reg _ => 1 | .dma q => kAmount (kindOf q)
  payload g _ d := match g.2 with
    | .reg _ => barPay g.1.1 d
    | .dma q => dmaPay m ρ (kindOf q) (stepOf q) g.1.1
  amount_pos g _ _ _ := by
    rcases g with ⟨t, _ | q⟩
    · exact Nat.one_pos
    · exact kAmount_pos _

instance barPay_storable (c : Dev nD) (j : Fin 7) : BI.Storable (upEmb : UEmb _ 𝕄) (barPay (F := F) c j) := by
  unfold barPay; infer_instance
instance dmaPay_storable (k : Fin 4) (j : Fin 7) (c : Dev nD) : BI.Storable (upEmb : UEmb _ 𝕄) (dmaPay m ρ k j c) := by
  match k with
  | 0 => exact (inferInstance : BI.Storable upEmb (sPts c j.castSucc (prod m ρ c (peer c j))))
  | 1 => exact (inferInstance : BI.Storable upEmb (rPts c j (prod m ρ (peer c j.rev) c)))
  | 2 => exact (inferInstance : BI.Storable upEmb (aPts m ρ c j.castSucc))
  | 3 => exact (inferInstance : BI.Storable upEmb (bPts c j (fun _ => ownMax m ρ (peer c j.rev))))
instance sched_storable (g : GSem nD τ sig) (r : ℕ) (d : Dty) : BI.Storable (upEmb : UEmb _ 𝕄) ((sched m ρ).payload g r d) := by
  rcases g with ⟨t, _ | q⟩
  · exact barPay_storable _ _
  · exact dmaPay_storable m ρ _ _ _

section Sched
variable (c : Dev nD) (k : Fin 4) (j d : Fin 7)

theorem duties_bar : (sched m ρ).duties (barCell c) 0 = Finset.univ := rfl
theorem duties_dma : (sched m ρ).duties (dcell k j c) 0 = {0} := rfl
theorem duties_later (g : GSem nD τ sig) : ∀ r, 1 ≤ r → (sched m ρ).duties g r = ∅ :=
  fun r hr => if_neg (by omega)
theorem amount_bar : (sched m ρ).amount (barCell c) 0 d = 1 := rfl
theorem amount_dma : (sched m ρ).amount (dcell k j c) 0 d = kAmount k := by
  show kAmount (kindOf (dsem k j)) = _; rw [kindOf_dsem]
theorem payload_bar : (sched m ρ).payload (barCell c) 0 d = barPay c d := rfl
theorem payload_dma : (sched m ρ).payload (dcell k j c) 0 d = dmaPay m ρ k j c := by
  show dmaPay m ρ (kindOf (dsem k j)) (stepOf (dsem k j)) c = _; rw [kindOf_dsem, stepOf_dsem]
theorem expect_bar : (sched m ρ).expect (barCell c) 0 = 7 := by
  unfold Schedule.expect Schedule.amountOf; rw [duties_bar, Finset.sum_congr rfl fun d _ => amount_bar m ρ c d]; rfl
theorem expect_dma : (sched m ρ).expect (dcell k j c) 0 = kAmount k := by
  unfold Schedule.expect Schedule.amountOf; rw [duties_dma, Finset.sum_singleton, amount_dma]
theorem rest_bar : bigSep ((sched m ρ).duties (barCell c) 0 \ ∅) (fun d => (sched m ρ).payload (barCell c) 0 d)
    = bigSep Finset.univ fun j => (barPay c j : sProp 𝕄) := by
  rw [Finset.sdiff_empty, duties_bar]; rfl
theorem rest_dma : bigSep ((sched m ρ).duties (dcell k j c) 0 \ ∅) (fun d => (sched m ρ).payload (dcell k j c) 0 d)
    = dmaPay m ρ k j c := by
  rw [Finset.sdiff_empty, duties_dma, bigSep_singleton, payload_dma]

end Sched

/-! ## What each device owes -/

/-- What is left of seven amounts from the `i`-th on. -/
def left (t : Fin 7 → CellTallies nD τ sig Unit) (i : ℕ) : CellTallies nD τ sig Unit :=
  ∑ j ∈ Finset.univ.filter (fun j : Fin 7 => i ≤ j.val), t j

omit [FloatOps F] in
theorem left_step (t : Fin 7 → CellTallies nD τ sig Unit) (j : Fin 7) : left t j.val = left t (j.val + 1) + t j := by
  unfold left
  rw [show Finset.univ.filter (fun i : Fin 7 => j.val ≤ i.val) = insert j (Finset.univ.filter fun i : Fin 7 => j.val + 1 ≤ i.val) from by
    ext i; simp only [Finset.mem_filter, Finset.mem_univ, true_and, Finset.mem_insert, Fin.ext_iff]; omega,
    Finset.sum_insert (by simp), add_comm]
omit [FloatOps F] in
theorem left_end (t : Fin 7 → CellTallies nD τ sig Unit) : left t 7 = 0 := by
  unfold left
  rw [Finset.filter_false_of_mem fun j _ => by have := j.isLt; omega, Finset.sum_empty]
omit [FloatOps F] in
theorem left_pos {f : Fin 7 → GSem nD τ sig} {n : ℕ} {i : ℕ} {g : GSem nD τ sig} {u : Unit}
    (h : 0 < left (fun j => tallyAt (f j) () n) i g u) : ∃ j, g = f j := by
  by_contra hn
  refine absurd h (Nat.not_lt.2 (Nat.le_of_eq ?_))
  unfold left
  rw [Finset.sum_apply, Finsupp.finset_sum_apply]
  exact Finset.sum_eq_zero fun j _ => by rw [tallyAt_apply, if_neg fun h' => hn ⟨j, h'.1⟩]

/-- The units device `c` owes the barriers, the credits for its products and for its largest value. -/
def owedBar (c : Dev nD) (j : Fin 7) : CellTallies nD τ sig Unit := tallyAt (barCell (peer c j)) () 1
def owedDma (k : Fin 4) (c : Dev nD) (j : Fin 7) : CellTallies nD τ sig Unit := tallyAt (dcell k j (peer c j)) () (kAmount k)

/-- What device `c` owes at launch. -/
def O₀ (c : Dev nD) : CellTallies nD τ sig Unit := left (owedDma 3 c) 0 + left (owedDma 1 c) 0 + left (owedBar c) 0

def L (g : GSem nD τ sig) : Finset Unit := if g.1.2 = .tc then {()} else ∅
/-- Barriers are below landings, and everything else is below them. -/
def lv (g : GSem nD τ sig) (_ : Unit) : ℕ := match g.2 with
  | .reg _ => 1
  | .dma q => if 3 ≤ q.val ∧ (kindOf q = 1 ∨ kindOf q = 3) then 2 else 0
omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl
omit [FloatOps F] in
theorem lv_land {k : Fin 4} (hk : k = 1 ∨ k = 3) (j : Fin 7) (c : Dev nD) (u : Unit) : lv (dcell k j c) u = 2 := by
  show (if 3 ≤ (dsem k j).val ∧ (kindOf (dsem k j) = 1 ∨ kindOf (dsem k j) = 3) then 2 else 0) = 2
  rw [kindOf_dsem]; exact if_pos ⟨own_dsem k j, hk⟩

omit [FloatOps F] in
/-- What is still owed once the barriers are signalled is owed to landings. -/
theorem owed_land {c : Dev nD} {a b : ℕ} {g : GSem nD τ sig} {u : Unit} (h : 0 < (left (owedDma 3 c) a + left (owedDma 1 c) b) g u) :
    ∃ k j, (k = 1 ∨ k = 3) ∧ g = dcell k j (peer c j) := by
  rw [Pi.add_apply, Finsupp.add_apply] at h
  rcases Nat.add_pos_iff_pos_or_pos.mp h with h | h
  · obtain ⟨j, hj⟩ := left_pos h; exact ⟨3, j, .inr rfl, hj⟩
  · obtain ⟨j, hj⟩ := left_pos h; exact ⟨1, j, .inl rfl, hj⟩

omit [FloatOps F] in
theorem owed_start {c : Dev nD} {g : GSem nD τ sig} {u : Unit} (h : 0 < O₀ c g u) :
    (∃ k j, (k = 1 ∨ k = 3) ∧ g = dcell k j (peer c j)) ∨ ∃ j, g = barCell (peer c j) := by
  unfold O₀ at h
  rw [Pi.add_apply, Finsupp.add_apply] at h
  rcases Nat.add_pos_iff_pos_or_pos.mp h with h | h
  · exact .inl (owed_land h)
  · exact .inr (left_pos h)

/-- The barrier may be awaited while the landings are owed. -/
theorem mayWait_bar (c : Dev nD) (a b : ℕ) :
    (levAts L lv : sProp 𝕄) ⊢ MayWait (c : Thread nD τ) (.reg barS) () (left (owedDma 3 c) a + left (owedDma 1 c) b) :=
  MayOwe.of_cut (L := L) (lev := lv) 1 (fun p hp => by rw [Finset.mem_singleton.mp hp, L_tc]; exact Finset.mem_singleton_self _)
    (fun g u hg => by obtain ⟨k, j, -, rfl⟩ := owed_land hg; exact Finset.mem_singleton_self _)
    (fun p hp => by rw [Finset.mem_singleton.mp hp]; exact Nat.le_refl 1)
    (fun g u hg => by obtain ⟨k, j, hk, rfl⟩ := owed_land hg; rw [lv_land hk]; decide)

/-- The staging semaphores may be awaited at launch and at the end. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_start hg with ⟨k, j, -, rfl⟩ | ⟨j, rfl⟩ <;> exact Finset.mem_singleton_self _)
      (fun p hp => by
        rw [Finset.mem_singleton.mp hp]; dsimp only [lv]
        rw [if_neg fun h => absurd h.1 (by omega)])
      (fun g u hg => by
        rcases owed_start hg with ⟨k, j, hk, rfl⟩ | ⟨j, rfl⟩
        · rw [lv_land hk]; decide
        · exact Nat.one_pos)
  · rw [MayWait_zero]; iintro -; iempintro

end Cert.KernelIdealProof

end
-- ==== Proof.KernelIdealStepsA.lean ====
/-
What one step of each kind takes and leaves: the signals, the barrier, the waits for transfers. Seven steps of one
kind in a row take and leave seven times that.
-/
module

public import proofs.«01_k».proof.Proof.KernelIdealSched

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c` ends in `Q`. -/
abbrev WP (c : Dev nD) (p : Pg F) (Q : PUnit → sProp 𝕄) : sProp 𝕄 :=
  wp frame (wpE (defs₀ (F := F)) 𝒱₀ (c : Thread nD τ) none) Set.univ p Q

/-- What is known of every cell: its schedule is kept and its round has begun; and the order of waiting. -/
def know (K : Dev nD × (Unit ⊕ (Fin 4 × Fin 7)) → ℕ) : sProp 𝕄 :=
  iprop((bigSep Finset.univ fun ck => cellInv ER (sched m ρ) (K ck) (kcell ck)) ∗ (bigSep Finset.univ fun ck => reached ER (kcell ck) 0) ∗ levAts L lv)

instance know_persistent (K : Dev nD × (Unit ⊕ (Fin 4 × Fin 7)) → ℕ) : BI.Persistent (know m ρ K) := by unfold know; infer_instance

variable (K : Dev nD × (Unit ⊕ (Fin 4 × Fin 7)) → ℕ)

theorem know_inv (ck : Dev nD × (Unit ⊕ (Fin 4 × Fin 7))) : know m ρ K ⊢ cellInv ER (sched m ρ) (K ck) (kcell ck) := by
  unfold know; iintro ⟨#H, -, -⟩
  iapply (show (bigSep Finset.univ fun ck => cellInv ER (sched m ρ) (K ck) (kcell ck)) ⊢ cellInv ER (sched m ρ) (K ck) (kcell ck)
    from bigSep_elim (Finset.mem_univ ck)) $$ H
theorem know_reached (ck : Dev nD × (Unit ⊕ (Fin 4 × Fin 7))) : know m ρ K ⊢ reached ER (kcell ck) 0 := by
  unfold know; iintro ⟨-, #H, -⟩
  iapply (show (bigSep Finset.univ fun ck => (reached ER (kcell ck) 0 : sProp 𝕄)) ⊢ reached ER (kcell ck) 0
    from bigSep_elim (Finset.mem_univ ck)) $$ H
theorem know_levels : know m ρ K ⊢ levAts L lv := by
  unfold know; iintro ⟨-, -, #H⟩; iexact H

/-- Something for each of the seven steps, one by one. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Seven steps in a row: each takes its own `A`, leaves its own `B`, and passes `R` on. -/
theorem seven_wp {S : Type} (P : sProp 𝕄) [BI.Persistent P] (c : Dev nD) (Q : PUnit → sProp 𝕄) (step : Fin 7 → S → (S → Pg F) → Pg F)
    (val : ℕ → S) (A B : Fin 7 → sProp 𝕄) (R : ℕ → sProp 𝕄) (k : S → Pg F)
    (h : ∀ (j : Fin 7) (k : S → Pg F), iprop(P ∗ A j ∗ R j.val)
      ⊢ iprop(((B j ∗ R (j.val + 1)) -∗ WP c (k (val (j.val + 1))) Q) -∗ WP c (step j (val j.val) k) Q)) :
    iprop(P ∗ bigSep Finset.univ A ∗ R 0) ⊢ iprop(((bigSep Finset.univ B ∗ R 7) -∗ WP c (k (val 7)) Q) -∗ WP c (seven step (val 0) k) Q) := by
  have h' : ∀ (j : Fin 7) (i i' : ℕ) (hi : j.val = i) (hi' : i + 1 = i') (k : S → Pg F), iprop(P ∗ A j ∗ R i)
      ⊢ iprop(((B j ∗ R i') -∗ WP c (k (val i')) Q) -∗ WP c (step j (val i) k) Q) := by
    rintro j _ _ rfl rfl k; exact h j k
  rw [bigSep_seven, bigSep_seven]
  unfold seven
  iintro ⟨#HP, ⟨HA0, HA1, HA2, HA3, HA4, HA5, HA6⟩, HR⟩ Hk
  iapply (h' 0 0 1 rfl rfl _) $$ [HA0 HR]
  · isplitr; · iexact HP
    isplitl [HA0] <;> iassumption
  iintro ⟨HB0, HR⟩
  iapply (h' 1 1 2 rfl rfl _) $$ [HA1 HR]
  · isplitr; · iexact HP
    isplitl [HA1] <;> iassumption
  iintro ⟨HB1, HR⟩
  iapply (h' 2 2 3 rfl rfl _) $$ [HA2 HR]
  · isplitr; · iexact HP
    isplitl [HA2] <;> iassumption
  iintro ⟨HB2, HR⟩
  iapply (h' 3 3 4 rfl rfl _) $$ [HA3 HR]
  · isplitr; · iexact HP
    isplitl [HA3] <;> iassumption
  iintro ⟨HB3, HR⟩
  iapply (h' 4 4 5 rfl rfl _) $$ [HA4 HR]
  · isplitr; · iexact HP
    isplitl [HA4] <;> iassumption
  iintro ⟨HB4, HR⟩
  iapply (h' 5 5 6 rfl rfl _) $$ [HA5 HR]
  · isplitr; · iexact HP
    isplitl [HA5] <;> iassumption
  iintro ⟨HB5, HR⟩
  iapply (h' 6 6 7 rfl rfl _) $$ [HA6 HR]
  · isplitr; · iexact HP
    isplitl [HA6] <;> iassumption
  iintro ⟨HB6, HR⟩
  iapply Hk $$ [HB0 HB1 HB2 HB3 HB4 HB5 HB6 HR]
  isplitl [HB0 HB1 HB2 HB3 HB4 HB5 HB6]
  · isplitl [HB0]; · iexact HB0
    isplitl [HB1]; · iexact HB1
    isplitl [HB2]; · iexact HB2
    isplitl [HB3]; · iexact HB3
    isplitl [HB4]; · iexact HB4
    isplitl [HB5] <;> iassumption
  · iexact HR

/-- What device `c` owes, whatever it has waited for. -/
def owing (c : Dev nD) (O : CellTallies nD τ sig Unit) : sProp 𝕄 := iprop(∃ W, owes (c : Thread nD τ) O W)

/-! ## The signals -/

/-- What the `j`-th signal of device `c` spends: the right to raise that barrier for it, and the slot and row handed over. -/
def sigNeeds (c : Dev nD) (j : Fin 7) : sProp 𝕄 :=
  iprop(dutyTok ER (barCell (peer c j)) 0 j.rev ∗ (∃ X, rPts c j.rev X) ∗ ∃ X, bPts c j.rev X)

theorem wp_signalStep (c : Dev nD) (Q : PUnit → sProp 𝕄) (O : CellTallies nD τ sig Unit) (j : Fin 7) (k : Unit → Pg F) :
    iprop(know m ρ K ∗ sigNeeds c j ∗ owing c (O + left (owedBar c) j.val))
      ⊢ iprop(((emp ∗ owing c (O + left (owedBar c) (j.val + 1))) -∗ WP c (k ()) Q) -∗ WP c (signalStep c j () k) Q) := by
  unfold sigNeeds owing
  dsimp only [signalStep]
  rw [sigDev_eq c j]
  iintro ⟨#Hkn, ⟨Htok, Hr, Hb⟩, ⟨%W, HO⟩⟩ Hk
  iapply (Rounds.wp_signal 𝒱₀ ER (sched m ρ) (c : Thread nD τ) none (dst := (peer c j : Thread nD τ)) (κ := K (peer c j, .inl ())) (r := 0) (d := j.rev)
      (by rw [duties_bar]; exact Finset.mem_univ _) ((amount_bar m ρ (peer c j) j.rev).trans (by decide)) () (O + left (owedBar c) (j.val + 1))
      (O₀ := O + left (owedBar c) j.val) (by rw [left_step (owedBar c) j, ← add_assoc]; rfl)) $$ [HO Htok Hr Hb]
  · isplitr; · iapply (know_inv m ρ K (peer c j, .inl ())); iexact Hkn
    isplitl [HO]; · iexact HO
    isplitl [Htok]; · iexact Htok
    isplitl [Hr Hb]
    · rw [payload_bar]; unfold barPay; rw [peer_rev]
      isplitl [Hr] <;> iassumption
    · iapply (know_reached m ρ K (peer c j, .inl ())); iexact Hkn
  iintro HO
  iapply Hk
  isplitr; · iempintro
  iexists W; iexact HO

/-! ## The barrier -/

theorem wp_barrier (c : Dev nD) (Q : PUnit → sProp 𝕄) (a b : ℕ) (k : PUnit → Pg F) :
    iprop(know m ρ K ∗ (cred (tallyAt (barCell c) () 7) ∗ atPos ER (barCell c) 0 ∅ 0) ∗ owing c (left (owedDma 3 c) a + left (owedDma 1 c) b))
      ⊢ iprop((((bigSep Finset.univ fun j => barPay c j) ∗ semVal (barCell c) 0 ∗ owing c (left (owedDma 3 c) a + left (owedDma 1 c) b)) -∗ WP c (k ⟨⟩) Q)
          -∗ WP c (.op (.semWait barS (7#32).toInt) k) Q) := by
  unfold owing
  iintro ⟨#Hkn, ⟨Hc, Hat⟩, ⟨%W, HO⟩⟩ Hk
  iapply (Rounds.wp_wait_rest_token 𝒱₀ ER (sched m ρ) (c : Thread nD τ) none (κ := K (c, .inl ()))
      (wpE_semWait_eq 𝒱₀ (c : Thread nD τ) none Set.univ) (Set.mem_univ _) () (O := left (owedDma 3 c) a + left (owedDma 1 c) b) (W := W) (R := 0) (m := 0) (T := ∅)
      (by rw [expect_bar]; decide)) $$ [Hc HO Hat]
  · isplitr; · iapply (know_inv m ρ K (c, .inl ())); iexact Hkn
    isplitl [Hc]; · iexact Hc
    isplitl [HO]; · iexact HO
    isplitr; · iapply (mayWait_bar c a b); iapply (know_levels m ρ K); iexact Hkn
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iapply (know_inv m ρ K (c, .inl ())); iexact Hkn
    iexact Hat
  iapply Hk
  isplitl [Hp]; · iexact Hp
  isplitl [Hz]; · iexact Hz
  iexists _; iexact HO

/-! ## Waiting for a transfer -/

/-- Waiting for transfer `j` of kind `k`, owing nothing: it hands over what it brings, and its semaphore is at zero for good. -/
theorem wp_dmaWait (c : Dev nD) (Q : PUnit → sProp 𝕄) (k : Fin 4) (j : Fin 7)
    {w : TpuEff nD τ sig (Elt F) Λ₀ .tc PUnit} (kk : PUnit → Pg F)
    (hw : ∀ K : PUnit → sProp 𝕄, wpE (defs₀ (F := F)) 𝒱₀ (c : Thread nD τ) none Set.univ w K = waitSpec (c : Thread nD τ) Set.univ (.dma (dsem k j)) (kAmount k) K) :
    iprop(know m ρ K ∗ (cred (tallyAt (dcell k j c) () (kAmount k)) ∗ atPos ER (dcell k j c) 0 ∅ 0) ∗ owing c 0)
      ⊢ iprop((((dmaPay m ρ k j c ∗ semVal (dcell k j c) 0) ∗ owing c 0) -∗ WP c (kk ⟨⟩) Q) -∗ WP c (.op w kk) Q) := by
  unfold owing
  iintro ⟨#Hkn, ⟨Hc, Hat⟩, ⟨%W, HO⟩⟩ Hk
  iapply (Rounds.wp_wait_rest_token 𝒱₀ ER (sched m ρ) (c : Thread nD τ) none (κ := K (c, .inr (k, j)))
      hw (Set.mem_univ _) () (O := 0) (W := W) (R := 0) (m := 0) (T := ∅)
      (by rw [Nat.zero_add, expect_dma])) $$ [Hc HO Hat]
  · isplitr; · iapply (know_inv m ρ K (c, .inr (k, j))); iexact Hkn
    isplitl [Hc]; · iexact Hc
    isplitl [HO]; · iexact HO
    isplitr; · rw [MayWait_zero]; iempintro
    iexact Hat
  iintro ⟨HO, Hat, -, Hpay⟩
  ihave Hp := (Entails.of_eq (rest_dma m ρ c k j)) $$ Hpay
  imod (Rounds.cell_close ER (sched m ρ) (Set.mem_univ (K (c, .inr (k, j)))) (fun h => h) (R := 0 + 1) (duties_later m ρ (dcell k j c))) $$ [Hat] with Hz
  · isplitr; · iapply (know_inv m ρ K (c, .inr (k, j))); iexact Hkn
    iexact Hat
  iapply Hk
  isplitl [Hp Hz]
  · isplitl [Hp] <;> iassumption
  iexists _; iexact HO

/-- What waiting for transfer `j` of kind `k` spends, -/
def waitNeeds (k : Fin 4) (c : Dev nD) (j : Fin 7) : sProp 𝕄 := iprop(cred (tallyAt (dcell k j c) () (kAmount k)) ∗ atPos ER (dcell k j c) 0 ∅ 0)
/-- and what it brings. -/
def waitGives (k : Fin 4) (c : Dev nD) (j : Fin 7) : sProp 𝕄 := iprop(dmaPay m ρ k j c ∗ semVal (dcell k j c) 0)

section Waits
variable (c : Dev nD) (j : Fin 7) (k : Unit → Pg F)

theorem wp_maxWait (Q : PUnit → sProp 𝕄) : iprop(know m ρ K ∗ waitNeeds 3 c j ∗ owing c 0)
    ⊢ iprop(((waitGives m ρ 3 c j ∗ owing c 0) -∗ WP c (k ()) Q) -∗ WP c (maxWait j () k) Q) := by
  dsimp only [maxWait]; rw [semB_eq j]
  exact wp_dmaWait m ρ K c Q 3 j (fun _ => k ()) (wpE_waitDma2_eq 𝒱₀ (c : Thread nD τ) none Set.univ)
theorem wp_prodWait (Q : PUnit → sProp 𝕄) : iprop(know m ρ K ∗ waitNeeds 1 c j ∗ owing c 0)
    ⊢ iprop(((waitGives m ρ 1 c j ∗ owing c 0) -∗ WP c (k ()) Q) -∗ WP c (prodWait j () k) Q) := by
  dsimp only [prodWait]; rw [semR_eq j]
  exact wp_dmaWait m ρ K c Q 1 j (fun _ => k ()) (wpE_waitDma2_eq 𝒱₀ (c : Thread nD τ) none Set.univ)
theorem wp_prodSent (Q : PUnit → sProp 𝕄) : iprop(know m ρ K ∗ waitNeeds 0 c j ∗ owing c 0)
    ⊢ iprop(((waitGives m ρ 0 c j ∗ owing c 0) -∗ WP c (k ()) Q) -∗ WP c (prodSent j () k) Q) := by
  dsimp only [prodSent]; rw [semS_eq j]
  exact wp_dmaWait m ρ K c Q 0 j (fun _ => k ()) (wpE_waitDma2_eq 𝒱₀ (c : Thread nD τ) none Set.univ)
theorem wp_maxSent (Q : PUnit → sProp 𝕄) : iprop(know m ρ K ∗ waitNeeds 2 c j ∗ owing c 0)
    ⊢ iprop(((waitGives m ρ 2 c j ∗ owing c 0) -∗ WP c (k ()) Q) -∗ WP c (maxSent j () k) Q) := by
  dsimp only [maxSent]; rw [semA_eq j]
  exact wp_dmaWait m ρ K c Q 2 j (fun _ => k ()) (wpE_waitDma2_eq 𝒱₀ (c : Thread nD τ) none Set.univ)
end Waits

end Cert.KernelIdealProof

end
-- ==== Proof.KernelIdealStepsB.lean ====
/-
What the steps that compute and send take and leave: the products, this device's own product, the largest values,
and the quantised rows.
-/
module

public import proofs.«01_k».proof.Proof.KernelIdealStepsA
public import Idealize.ShloMosaic.Lib.Pipeline.Value

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the computed offsets point -/

theorem off1_eq (d : Dev nD) (j : Fin 7) : k0_off1 d (offW j) = ![0, 256 * (peer d j).val] := by revert d j; decide +kernel
theorem off4_eq (d : Dev nD) (j : Fin 7) : k0_off4 d (offW j) = ![512 * (peer d j.rev).val, 0] := by revert d j; decide +kernel

/-- A stretch of 256 columns of `w` that starts at device `t`'s is device `t`'s columns. -/
theorem read_cols (w : Vec F S4096x2048 .f32) (t : Dev nD) (off : Fin 2 → ℕ) (h : ∀ a, off a + S4096x256.size a ≤ S4096x2048.size a)
    (e : off = ![0, 256 * t.val]) :
    (wM : Memref sig .tc .vmem S4096x2048 .f32).view.readAt (Elt F) (Rect.unit (s := S4096x2048) off S4096x256.size h).toLoadRect w = colsOf w t := by
  subst e
  funext i
  refine congrArg w (funext fun a => ?_)
  fin_cases a
  · exact Fin.ext (show 0 + 1 * (i 0).val = (i 0).val by omega)
  · exact Fin.ext (show 256 * t.val + 1 * (i 1).val = 256 * t.val + (i 1).val by omega)

theorem read_wCol (w : Vec F S4096x2048 .f32) (c : Dev nD) (j : Fin 7) :
    (wM : Memref sig .tc .vmem S4096x2048 .f32).view.readAt (Elt F) (wCol c j).toLoadRect w = colsOf w (peer c j) :=
  read_cols w (peer c j) _ _ (off1_eq c j)
theorem read_wOwn (w : Vec F S4096x2048 .f32) (c : Dev nD) :
    (wM : Memref sig .tc .vmem S4096x2048 .f32).view.readAt (Elt F) (wOwn c).toLoadRect w = colsOf w c :=
  read_cols w c _ _ (k0_off2_eq c)

theorem hz2 : (![0, 0] : Fin 2 → Nat) = fun _ => 0 := funext fun a => by fin_cases a <;> rfl

theorem read_bAll (f : (cc0_scratch3 : Ref sig .tc).ty.Contents (Elt F)) :
    (bM : Memref sig .tc .vmem S7x128 .f32).view.readAt (Elt F) bAll.toLoadRect f = f := Memref.readAt_unit_zero (Elt F) cc0_scratch3 hz2 _ f
theorem read_xAll (f : (cc0_stg0_0 : Ref sig .tc).ty.Contents (Elt F)) :
    (xM : Memref sig .tc .vmem S512x4096 .f32).view.readAt (Elt F) xAll.toLoadRect f = f := Memref.readAt_unit_zero (Elt F) cc0_stg0_0 hz2 _ f
theorem write_aAll (f w : (cc0_scratch2 : Ref sig .tc).ty.Contents (Elt F)) :
    ((aM : Memref sig .tc .vmem S1x128 .f32).access aAll : View sig .tc _ _ _).write (Elt F) f w Finset.univ = w :=
  Memref.write_access_unit_zero_univ (Elt F) cc0_scratch2 hz2 _ f w

/-! ## A slot, seen as a block of its buffer -/

theorem sSlot_set (j : Fin 8) : (sSlot j : Memref sig .tc .vmem S512x256 .f32).view.set
    = ((sM : Memref sig .tc .vmem S8x512x256 .f32).access (slot8 j) : View sig .tc _ _ _).set := Memref.set_view_squeeze _ _
theorem rSlot_set (j : Fin 7) : (rSlot j : Memref sig .tc .vmem S512x256 .f32).view.set
    = ((rM : Memref sig .tc .vmem S7x512x256 .f32).access (slot7 j) : View sig .tc _ _ _).set := Memref.set_view_squeeze _ _
theorem sSlot_read (j : Fin 8) (f : (cc0_scratch0 : Ref sig .tc).ty.Contents (Elt F)) :
    (sSlot j : Memref sig .tc .vmem S512x256 .f32).view.read (Elt F) f
      = shapeCast S512x256 (((sM : Memref sig .tc .vmem S8x512x256 .f32).access (slot8 j) : View sig .tc _ _ _).read (Elt F) f) shapeCasts_S1x512x256_S512x256 := rfl
theorem rSlot_read (j : Fin 7) (f : (cc0_scratch1 : Ref sig .tc).ty.Contents (Elt F)) :
    (rSlot j : Memref sig .tc .vmem S512x256 .f32).view.read (Elt F) f
      = shapeCast S512x256 (((rM : Memref sig .tc .vmem S7x512x256 .f32).access (slot7 j) : View sig .tc _ _ _).read (Elt F) f) shapeCasts_S1x512x256_S512x256 := rfl

theorem sPts_eq (c : Dev nD) (j : Fin 8) (X : Vec F S512x256 .f32) : (sPts c j X : sProp 𝕄)
    = iprop(∃ f, ⌜(sSlot j : Memref sig .tc .vmem S512x256 .f32).view.read (Elt F) f = X⌝
      ∗ ((sM : Memref sig .tc .vmem S8x512x256 .f32).access (slot8 j)).loc (c : Thread nD τ) ↦[((sM : Memref sig .tc .vmem S8x512x256 .f32).access (slot8 j) : View sig .tc _ _ _).set]{fullShare} f) := by
  unfold sPts owns; rw [sSlot_set]
theorem rPts_eq (c : Dev nD) (j : Fin 7) (X : Vec F S512x256 .f32) : (rPts c j X : sProp 𝕄)
    = iprop(∃ f, ⌜(rSlot j : Memref sig .tc .vmem S512x256 .f32).view.read (Elt F) f = X⌝
      ∗ ((rM : Memref sig .tc .vmem S7x512x256 .f32).access (slot7 j)).loc (c : Thread nD τ) ↦[((rM : Memref sig .tc .vmem S7x512x256 .f32).access (slot7 j) : View sig .tc _ _ _).set]{fullShare} f) := by
  unfold rPts owns; rw [rSlot_set]

/-- A matrix read from a slot determines the block stored there. -/
theorem slot_inj {X Y : FVec F S1x512x256 .f32}
    (h : shapeCast S512x256 X shapeCasts_S1x512x256_S512x256 = shapeCast S512x256 Y shapeCasts_S1x512x256_S512x256) : X = Y := by
  rw [← shapeCast_shapeCast X shapeCasts_S1x512x256_S512x256 shapeCasts_S512x256_S1x512x256, h, shapeCast_shapeCast]

variable (K : Dev nD × (Unit ⊕ (Fin 4 × Fin 7)) → ℕ)

/-! ## The products -/

/-- Device `c`'s copy of `w`, in its staging buffer, -/
def wPts (c : Dev nD) : sProp 𝕄 := ((c : Thread nD τ).loc cc0_stg1_0) ↦{fullShare} ws m ρ c

/-- What the `j`-th product of device `c` spends: the rights to both transfers, the slot it lands in and the slot it is sent from. -/
def prodNeeds (c : Dev nD) (j : Fin 7) : sProp 𝕄 :=
  iprop(dutyTok ER (dcell 0 j c) 0 0 ∗ dutyTok ER (dcell 1 j (peer c j)) 0 0 ∗ (∃ X, rPts (peer c j) j X) ∗ ∃ X, sPts c j.castSucc X)

theorem wp_sendProd (c n : Dev nD) (j : Fin 7) (hn : n = peer c j) (q₁ q₂ : DmaSem sig) (h₁ : q₁ = dsem 0 j) (h₂ : q₂ = dsem 1 j)
    {hsc : (rSlot j : Memref sig (Dev.tc n : Thread nD τ).2.kind .vmem S512x256 .f32).view.ref.isScScratch = false}
    {hsrc : (sSlot j.castSucc : Memref sig .tc .vmem S512x256 .f32).view.WordExact} {hdst : (rSlot j : Memref sig .tc .vmem S512x256 .f32).view.WordExact}
    {hsem : DmaTarget.Typed .vmem (.dma q₂) (.remote (Dev.tc n : Thread nD τ) (rSlot j : Memref sig .tc .vmem S512x256 .f32) (.dma q₁) hsc)}
    {Q : PUnit → sProp 𝕄} {k : PUnit → Pg F} (O : CellTallies nD τ sig Unit) :
    iprop(know m ρ K ∗ sPts c j.castSucc (prod m ρ c (peer c j))
        ∗ (∃ X, rPts (peer c j) j X) ∗ dutyTok ER (dcell 0 j c) 0 0 ∗ dutyTok ER (dcell 1 j (peer c j)) 0 0
        ∗ owing c (O + left (owedDma 1 c) j.val))
      ⊢ iprop(((cred (tallyAt (dcell 0 j c) () (kAmount 0)) ∗ owing c (O + left (owedDma 1 c) (j.val + 1))) -∗ WP c (k ⟨⟩) Q)
          -∗ WP c (.op (.enqueueDma (sSlot j.castSucc) (.remote (Dev.tc n : Thread nD τ) (rSlot j) (.dma q₁) hsc) (.dma q₂) hsrc hdst hsem) k) Q) := by
  subst hn h₁ h₂
  unfold owing sPts rPts owns
  rw [kAmount_0]
  iintro ⟨#Hkn, ⟨%fs, %hfs, Hs⟩, ⟨%X, %fn, %hfn, Hr⟩, Ht0, Ht1, ⟨%W, HO⟩⟩ Hk
  iapply (Rounds.wp_send_pointsTo 𝒱₀ ER (sched m ρ) (c : Thread nD τ) none (c' := (peer c j : Thread nD τ)) (src := sSlot j.castSucc) (dst := rSlot j) (sS := .dma (dsem 0 j)) (sem := .dma (dsem 1 j))
    (κ₁ := K (c, .inr (0, j))) (κ₂ := K (peer c j, .inr (1, j)))
    (r₁ := 0) (r₂ := 0) (d₁ := 0) (d₂ := 0) (fs := fs) (fd := fn)
    (by rw [duties_dma]; exact Finset.mem_singleton_self _) (by rw [duties_dma]; exact Finset.mem_singleton_self _)
    () () NY (credit_r j) ((amount_dma m ρ c 0 j 0).trans kAmount_0) ((amount_dma m ρ (peer c j) 1 j 0).trans kAmount_1) (O + left (owedDma 1 c) (j.val + 1))
    (O₀ := O + left (owedDma 1 c) j.val) (by rw [left_step (owedDma 1 c) j, ← add_assoc, owedDma, kAmount_1]) (W := W)
    (by
      rw [payload_dma]; show _ ⊢ sPts c j.castSucc (prod m ρ c (peer c j)); unfold sPts owns
      iintro H; iexists fs; isplitr; · ipureintro; exact hfs
      iexact H)
    (by
      rw [payload_dma]; show _ ⊢ rPts (peer c j) j (prod m ρ (peer (peer c j) j.rev) (peer c j)); rw [peer_rev]; unfold rPts owns
      iintro H; iexists _; isplitr
      rotate_left
      · iexact H
      · ipureintro; rw [View.read_write_univ]; exact hfs)) $$ [Hs Hr Ht0 Ht1 HO]
  · isplitr; · iapply (know_inv m ρ K (c, .inr (0, j))); iexact Hkn
    isplitr; · iapply (know_inv m ρ K (peer c j, .inr (1, j))); iexact Hkn
    isplitl [Hs]; · iexact Hs
    isplitl [Hr]; · iexact Hr
    isplitl [HO]; · iexact HO
    isplitl [Ht0]; · iexact Ht0
    isplitr; · iapply (know_reached m ρ K (c, .inr (0, j))); iexact Hkn
    isplitl [Ht1]; · iexact Ht1
    iapply (know_reached m ρ K (peer c j, .inr (1, j))); iexact Hkn
  iintro ⟨Hc, HO⟩
  iapply Hk
  isplitl [Hc]; · iexact Hc
  iexists W; iexact HO

/-- A product stored in a slot is held there as a matrix. -/
theorem sPts_stored (c t : Dev nD) (j : Fin 8) (f : (cc0_scratch0 : Ref sig .tc).ty.Contents (Elt F)) :
    (((sM : Memref sig .tc .vmem S8x512x256 .f32).access (slot8 j)).loc (c : Thread nD τ) ↦[((sM : Memref sig .tc .vmem S8x512x256 .f32).access (slot8 j) : View sig .tc _ _ _).set]{fullShare}
        (((sM : Memref sig .tc .vmem S8x512x256 .f32).access (slot8 j) : View sig .tc _ _ _).write (Elt F) f (prodV m ρ c t) Finset.univ) : sProp 𝕄)
      ⊢ sPts c j (prod m ρ c t) := by
  rw [sPts_eq]
  iintro H
  iexists _; isplitr
  rotate_left
  · iexact H
  · ipureintro; rw [sSlot_read, View.read_write_univ]; rfl

theorem wp_prodStep (c : Dev nD) (O : CellTallies nD τ sig Unit) (Q : PUnit → sProp 𝕄) (j : Fin 7) (k : F .f32 → Pg F) :
    iprop(know m ρ K ∗ prodNeeds c j ∗ (owing c (O + left (owedDma 1 c) j.val) ∗ wPts m ρ c))
      ⊢ iprop(((cred (tallyAt (dcell 0 j c) () (kAmount 0)) ∗ (owing c (O + left (owedDma 1 c) (j.val + 1)) ∗ wPts m ρ c)) -∗ WP c (k (runMax m ρ c (j.val + 1))) Q)
          -∗ WP c (prodStep c (k0_pay1 (xs m ρ c)) j (runMax m ρ c j.val) k) Q) := by
  unfold prodNeeds wPts
  dsimp only [prodStep]
  iintro ⟨#Hkn, ⟨Ht0, Ht1, Hr, ⟨%X, Hs⟩⟩, HO, Hw⟩ Hk
  iapply (wp_load 𝒱₀ (c : Thread nD τ) none Set.univ (m := wM) (Finset.subset_univ _)) $$ Hw; iintro Hw
  rw [read_wCol, show k0_pay7 (k0_pay1 (xs m ρ c)) (colsOf (ws m ρ c) (peer c j)) = prodV m ρ c (peer c j) from rfl]
  ihave Hs' := (Entails.of_eq (sPts_eq c j.castSucc X)) $$ Hs
  icases Hs' with ⟨%f, -, Hs⟩
  iapply (wp_load_rect 𝒱₀ (c : Thread nD τ) none Set.univ (m := sM) (r := slot8 j.castSucc) subset_rfl) $$ Hs; iintro Hs
  iapply (wp_store 𝒱₀ (c : Thread nD τ) none Set.univ (m := sM) (r := slot8 j.castSucc) (Mk := Finset.univ)
    (S := ((sM : Memref sig .tc .vmem S8x512x256 .f32).access (slot8 j.castSucc) : View sig .tc _ _ _).set) subset_rfl) $$ Hs; iintro Hs
  ihave Hs' := (sPts_stored m ρ c (peer c j) j.castSucc f) $$ Hs
  iapply (wp_sendProd m ρ K c _ j (yDev_eq c j) _ _ (semS_eq j) (semR_eq j) O) $$ [Hs' Hr Ht0 Ht1 HO]
  · isplitr; · iexact Hkn
    isplitl [Hs']; · iexact Hs'
    isplitl [Hr]; · iexact Hr
    isplitl [Ht0]; · iexact Ht0
    isplitl [Ht1] <;> iassumption
  iintro ⟨Hc, HO⟩
  rw [show k0_pay6 (k0_pay1 (xs m ρ c)) (runMax m ρ c j.val) (colsOf (ws m ρ c) (peer c j)) = runMax m ρ c (j.val + 1) from by
    rw [runMax, dif_pos j.isLt]]
  iapply Hk
  isplitl [Hc]; · iexact Hc
  isplitl [HO] <;> iassumption

/-! ## This device's own product -/

theorem wp_ownStep (c : Dev nD) (Q : PUnit → sProp 𝕄) (k : F .f32 → Pg F) :
    iprop(wPts m ρ c ∗ (∃ X, sPts c 7 X) ∗ (∃ f, ((c : Thread nD τ).loc cc0_scratch2) ↦{fullShare} f))
      ⊢ iprop(((wPts m ρ c ∗ sPts c 7 (prod m ρ c c) ∗ (((c : Thread nD τ).loc cc0_scratch2) ↦{fullShare} fun _ => ownMax m ρ c)) -∗ WP c (k (ownMax m ρ c)) Q)
          -∗ WP c (ownStep c (k0_pay1 (xs m ρ c)) (runMax m ρ c 7) k) Q) := by
  unfold wPts
  dsimp only [ownStep]
  iintro ⟨Hw, ⟨%X, Hs⟩, ⟨%g, Ha⟩⟩ Hk
  iapply (wp_load 𝒱₀ (c : Thread nD τ) none Set.univ (m := wM) (Finset.subset_univ _)) $$ Hw; iintro Hw
  rw [read_wOwn]
  ihave Hs' := (Entails.of_eq (sPts_eq c 7 X)) $$ Hs
  icases Hs' with ⟨%f, -, Hs⟩
  iapply (wp_load_rect 𝒱₀ (c : Thread nD τ) none Set.univ (m := sM) (r := slot8 7) subset_rfl) $$ Hs; iintro Hs
  iapply (wp_store 𝒱₀ (c : Thread nD τ) none Set.univ (m := sM) (r := slot8 7) (Mk := Finset.univ)
    (S := ((sM : Memref sig .tc .vmem S8x512x256 .f32).access (slot8 7) : View sig .tc _ _ _).set) subset_rfl) $$ Hs; iintro Hs
  iapply (wp_load 𝒱₀ (c : Thread nD τ) none Set.univ (m := aM) (Finset.subset_univ _)) $$ Ha; iintro Ha
  iapply (wp_store 𝒱₀ (c : Thread nD τ) none Set.univ (m := aM) (r := aAll) (Mk := Finset.univ) (Finset.subset_univ _)) $$ Ha; iintro Ha
  rw [write_aAll]
  iapply Hk
  isplitl [Hw]; · iexact Hw
  isplitl [Hs]; · iapply (sPts_stored m ρ c c 7 f); iexact Hs
  iexact Ha

/-! ## The largest values -/

/-- What sending this device's largest value to the device `j + 1` places on spends. -/
def maxNeeds (c : Dev nD) (j : Fin 7) : sProp 𝕄 :=
  iprop(dutyTok ER (dcell 2 j c) 0 0 ∗ dutyTok ER (dcell 3 j (peer c j)) 0 0 ∗ (∃ X, bPts (peer c j) j X) ∗ aPts m ρ c j.castSucc)

theorem wp_sendMax (c n : Dev nD) (j : Fin 7) (hn : n = peer c j) (q₁ q₂ : DmaSem sig) (h₁ : q₁ = dsem 2 j) (h₂ : q₂ = dsem 3 j)
    {hsc : (bRow j : Memref sig (Dev.tc n : Thread nD τ).2.kind .vmem S1x128 .f32).view.ref.isScScratch = false}
    {hsrc : (aM : Memref sig .tc .vmem S1x128 .f32).view.WordExact} {hdst : (bRow j : Memref sig .tc .vmem S1x128 .f32).view.WordExact}
    {hsem : DmaTarget.Typed .vmem (.dma q₂) (.remote (Dev.tc n : Thread nD τ) (bRow j : Memref sig .tc .vmem S1x128 .f32) (.dma q₁) hsc)}
    {Q : PUnit → sProp 𝕄} {k : PUnit → Pg F} :
    iprop(know m ρ K ∗ maxNeeds m ρ c j ∗ owing c (left (owedDma 3 c) j.val))
      ⊢ iprop(((cred (tallyAt (dcell 2 j c) () (kAmount 2)) ∗ owing c (left (owedDma 3 c) (j.val + 1))) -∗ WP c (k ⟨⟩) Q)
          -∗ WP c (.op (.enqueueDma aM (.remote (Dev.tc n : Thread nD τ) (bRow j) (.dma q₁) hsc) (.dma q₂) hsrc hdst hsem) k) Q) := by
  subst hn h₁ h₂
  unfold owing maxNeeds bPts aPts owns
  rw [kAmount_2]
  iintro ⟨#Hkn, ⟨Ht0, Ht1, ⟨%X, %fn, %hfn, Hb⟩, ⟨%fs, %hfs, Ha⟩⟩, ⟨%W, HO⟩⟩ Hk
  iapply (Rounds.wp_send_pointsTo 𝒱₀ ER (sched m ρ) (c : Thread nD τ) none (c' := (peer c j : Thread nD τ)) (src := aM) (dst := bRow j) (sS := .dma (dsem 2 j)) (sem := .dma (dsem 3 j))
    (κ₁ := K (c, .inr (2, j))) (κ₂ := K (peer c j, .inr (3, j)))
    (r₁ := 0) (r₂ := 0) (d₁ := 0) (d₂ := 0) (fs := fs) (fd := fn)
    (by rw [duties_dma]; exact Finset.mem_singleton_self _) (by rw [duties_dma]; exact Finset.mem_singleton_self _)
    () () NA (credit_b j) ((amount_dma m ρ c 2 j 0).trans kAmount_2) ((amount_dma m ρ (peer c j) 3 j 0).trans kAmount_3) (left (owedDma 3 c) (j.val + 1))
    (O₀ := left (owedDma 3 c) j.val) (by rw [left_step (owedDma 3 c) j, owedDma, kAmount_3]) (W := W)
    (by
      rw [payload_dma]; show _ ⊢ aPts m ρ c j.castSucc; unfold aPts owns
      iintro H; iexists fs; isplitr; · ipureintro; exact hfs
      iexact H)
    (by
      rw [payload_dma]; show _ ⊢ bPts (peer c j) j (fun _ => ownMax m ρ (peer (peer c j) j.rev)); rw [peer_rev]; unfold bPts owns
      iintro H; iexists _; isplitr
      rotate_left
      · iexact H
      · ipureintro; rw [View.read_write_univ]; exact hfs)) $$ [Ha Hb Ht0 Ht1 HO]
  · isplitr; · iapply (know_inv m ρ K (c, .inr (2, j))); iexact Hkn
    isplitr; · iapply (know_inv m ρ K (peer c j, .inr (3, j))); iexact Hkn
    isplitl [Ha]; · iexact Ha
    isplitl [Hb]; · iexact Hb
    isplitl [HO]; · iexact HO
    isplitl [Ht0]; · iexact Ht0
    isplitr; · iapply (know_reached m ρ K (c, .inr (2, j))); iexact Hkn
    isplitl [Ht1]; · iexact Ht1
    iapply (know_reached m ρ K (peer c j, .inr (3, j))); iexact Hkn
  iintro ⟨Hc, HO⟩
  iapply Hk
  isplitl [Hc]; · iexact Hc
  iexists W; iexact HO

theorem wp_maxStep (c : Dev nD) (Q : PUnit → sProp 𝕄) (j : Fin 7) (k : Unit → Pg F) :
    iprop(know m ρ K ∗ maxNeeds m ρ c j ∗ owing c (left (owedDma 3 c) j.val))
      ⊢ iprop(((cred (tallyAt (dcell 2 j c) () (kAmount 2)) ∗ owing c (left (owedDma 3 c) (j.val + 1))) -∗ WP c (k ()) Q)
          -∗ WP c (maxStep c j () k) Q) :=
  wp_sendMax m ρ K c _ j (aDev_eq c j) _ _ (semA_eq j) (semB_eq j)

/-! ## The result -/

/-- The result's staging buffer, right on every row of the row blocks `S`. -/
def oPts (c : Dev nD) (S : Finset (Dev nD)) : sProp 𝕄 :=
  iprop(∃ f : (cc0_stg2_0 : Ref sig .tc).ty.Contents (Elt F),
    ⌜∀ i : S4096x256.Idx, (∃ s ∈ S, 512 * s.val ≤ (i 0).val ∧ (i 0).val < 512 * s.val + 512) → f i = outV m ρ c i⌝ ∗ ((c : Thread nD τ).loc cc0_stg2_0) ↦{fullShare} f)

/-- Storing the quantised product of device `s` at its rows makes them right and keeps the others. -/
theorem write_rows (c s : Dev nD) (S : Finset (Dev nD)) (off : Fin 2 → ℕ) (h : ∀ a, off a + S512x256.size a ≤ S4096x256.size a)
    (e : off = ![512 * s.val, 0]) (f : (cc0_stg2_0 : Ref sig .tc).ty.Contents (Elt F))
    (hf : ∀ i : S4096x256.Idx, (∃ s ∈ S, 512 * s.val ≤ (i 0).val ∧ (i 0).val < 512 * s.val + 512) → f i = outV m ρ c i)
    (i : S4096x256.Idx) (hi : ∃ t ∈ insert s S, 512 * t.val ≤ (i 0).val ∧ (i 0).val < 512 * t.val + 512) :
    ((oM : Memref sig .tc .vmem S4096x256 .f32).access (Rect.unit (s := S4096x256) off S512x256.size h) : View sig .tc _ _ _).write (Elt F) f
      (k0_pay31 (scaleV m ρ c) (prodV m ρ s c)) Finset.univ i = outV m ρ c i := by
  subst e
  by_cases hs : 512 * s.val ≤ (i 0).val ∧ (i 0).val < 512 * s.val + 512
  · have h1 : (i 1).val < 256 := (i 1).isLt
    have hd : (i 0).val / 512 = s.val := by omega
    have e : i = ((oM : Memref sig .tc .vmem S4096x256 .f32).access (Rect.unit (s := S4096x256) ![512 * s.val, 0] S512x256.size h) : View sig .tc _ _ _).emb
        (fun a => match a with
          | ⟨0, _⟩ => (⟨(i 0).val % 512, Nat.mod_lt _ (by decide)⟩ : Fin 512)
          | ⟨1, _⟩ => (⟨(i 1).val, h1⟩ : Fin 256)) := by
      funext a
      fin_cases a
      · exact Fin.ext (show (i 0).val = 512 * s.val + 1 * ((i 0).val % 512) by omega)
      · exact Fin.ext (show (i 1).val = 0 + 1 * (i 1).val by omega)
    refine ((congrArg _ e).trans (View.write_emb_of_mem _ _ (Finset.mem_univ _))).trans ?_
    unfold outV
    rw [show (⟨(i 0).val / 512, by have h : (i 0).val < 4096 := (i 0).isLt; show _ < 8; omega⟩ : Dev nD) = s from Fin.ext hd]
    rfl
  · rw [View.write_of_not_mem]
    · refine hf i ?_
      obtain ⟨t, ht, h'⟩ := hi
      rcases Finset.mem_insert.mp ht with rfl | ht
      · exact absurd h' hs
      · exact ⟨t, ht, h'⟩
    · intro hm
      obtain ⟨x, -, rfl⟩ := Finset.mem_map.mp hm
      have hx : (x 0).val < 512 := (x 0).isLt
      exact hs (show 512 * s.val ≤ 512 * s.val + 1 * (x 0).val ∧ 512 * s.val + 1 * (x 0).val < 512 * s.val + 512 by omega)

/-- The scale, from this device's largest value and the seven that landed, and this device's own rows. -/
theorem wp_scaleStep (c : Dev nD) (Q : PUnit → sProp 𝕄) (k : F .f32 → Pg F) :
    iprop((((c : Thread nD τ).loc cc0_scratch3) ↦{fullShare} maxV m ρ c) ∗ sPts c 7 (prod m ρ c c) ∗ oPts m ρ c ∅)
      ⊢ iprop((((((c : Thread nD τ).loc cc0_scratch3) ↦{fullShare} maxV m ρ c) ∗ sPts c 7 (prod m ρ c c) ∗ oPts m ρ c {c}) -∗ WP c (k (scaleV m ρ c)) Q)
          -∗ WP c (scaleStep c (ownMax m ρ c) k) Q) := by
  dsimp only [scaleStep]
  unfold oPts
  iintro ⟨Hb, Hs, ⟨%g, %hg, Ho⟩⟩ Hk
  iapply (wp_load 𝒱₀ (c : Thread nD τ) none Set.univ (m := bM) (Finset.subset_univ _)) $$ Hb; iintro Hb
  rw [read_bAll]
  ihave Hs' := (Entails.of_eq (sPts_eq c 7 (prod m ρ c c))) $$ Hs
  icases Hs' with ⟨%f, %hf, Hs⟩
  iapply (wp_load_rect 𝒱₀ (c : Thread nD τ) none Set.univ (m := sM) (r := slot8 7) subset_rfl) $$ Hs; iintro Hs
  rw [slot_inj ((sSlot_read 7 f).symm.trans hf)]
  iapply (wp_load 𝒱₀ (c : Thread nD τ) none Set.univ (m := oM) (Finset.subset_univ _)) $$ Ho; iintro Ho
  iapply (wp_store 𝒱₀ (c : Thread nD τ) none Set.univ (m := oM) (r := oOwn c) (Mk := Finset.univ) (Finset.subset_univ _)) $$ Ho; iintro Ho
  iapply Hk
  isplitl [Hb]; · iexact Hb
  isplitl [Hs]
  · rw [sPts_eq]; iexists f; isplitr
    · ipureintro; exact hf
    · iexact Hs
  iexists _; isplitr
  rotate_left
  · iexact Ho
  · ipureintro
    exact fun i hi => write_rows m ρ c c ∅ _ _ (k0_off3_eq c) g hg i hi

/-- The row blocks that are right before the `n`-th step. -/
def done (c : Dev nD) (n : ℕ) : Finset (Dev nD) := insert c ((Finset.univ.filter fun j : Fin 7 => j.val < n).image fun j => peer c j.rev)

theorem wp_outStep (c : Dev nD) (Q : PUnit → sProp 𝕄) (j : Fin 7) (k : Unit → Pg F) :
    iprop(emp ∗ rPts c j (prod m ρ (peer c j.rev) c) ∗ oPts m ρ c (done c j.val))
      ⊢ iprop(((rPts c j (prod m ρ (peer c j.rev) c) ∗ oPts m ρ c (done c (j.val + 1))) -∗ WP c (k ()) Q)
          -∗ WP c (outStep c (scaleV m ρ c) j () k) Q) := by
  dsimp only [outStep]
  unfold oPts
  iintro ⟨-, Hr, ⟨%g, %hg, Ho⟩⟩ Hk
  ihave Hr' := (Entails.of_eq (rPts_eq c j _)) $$ Hr
  icases Hr' with ⟨%f, %hf, Hr⟩
  iapply (wp_load_rect 𝒱₀ (c : Thread nD τ) none Set.univ (m := rM) (r := slot7 j) subset_rfl) $$ Hr; iintro Hr
  rw [slot_inj ((rSlot_read j f).symm.trans hf)]
  iapply (wp_load 𝒱₀ (c : Thread nD τ) none Set.univ (m := oM) (Finset.subset_univ _)) $$ Ho; iintro Ho
  iapply (wp_store 𝒱₀ (c : Thread nD τ) none Set.univ (m := oM) (r := oRows c j) (Mk := Finset.univ) (Finset.subset_univ _)) $$ Ho; iintro Ho
  iapply Hk
  isplitl [Hr]
  · rw [rPts_eq]; iexists f; isplitr
    · ipureintro; exact hf
    · iexact Hr
  iexists _; isplitr
  rotate_left
  · iexact Ho
  · ipureintro
    refine fun i hi => write_rows m ρ c (peer c j.rev) (done c j.val) _ _ (off4_eq c j) g hg i ?_
    obtain ⟨t, ht, h⟩ := hi
    refine ⟨t, ?_, h⟩
    revert ht; unfold done
    simp only [Finset.mem_insert, Finset.mem_image, Finset.mem_filter, Finset.mem_univ, _root_.true_and]
    rintro (rfl | ⟨i, hi, rfl⟩)
    · exact .inr (.inl rfl)
    · rcases Nat.lt_or_eq_of_le (Nat.lt_succ_iff.mp hi) with h | h
      · exact .inr (.inr ⟨i, h, rfl⟩)
      · exact .inl (by rw [Fin.ext h])

theorem mem_done (c s : Dev nD) : s ∈ done c 7 := by revert c s; decide

/-- After the last step every row is right. -/
theorem oPts_done (c : Dev nD) : oPts m ρ c (done c 7) ⊢ ((c : Thread nD τ).loc cc0_stg2_0) ↦{fullShare} outV m ρ c := by
  unfold oPts
  iintro ⟨%f, %hf, H⟩
  rw [show f = outV m ρ c from funext fun i => hf i ⟨⟨(i 0).val / 512, by have h : (i 0).val < 4096 := (i 0).isLt; show _ < 8; omega⟩, by
      exact mem_done c _, by dsimp only; omega, by dsimp only; omega⟩]
  iexact H

end Cert.KernelIdealProof

end
-- ==== Proof.KernelIdealBufs.lean ====
/-
The scratch buffers cut into their slots, rows and shares, and put together again.
-/
module

public import proofs.«01_k».proof.Proof.KernelIdealStepsB
public import Idealize.ShloMosaic.Lib.Ring

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Scratch buffer `b` of device `c`, whole, at some contents. -/
abbrev someOf (c : Dev nD) (b : Ref sig .tc) : sProp 𝕄 := iprop(∃ f : Buf (Elt F) ((c : Thread nD τ).loc b), ((c : Thread nD τ).loc b) ↦{fullShare} f)

/-- Something for each of eight: for the last, and for the seven before it. -/
theorem bigSep_eight (Φ : Fin 8 → sProp 𝕄) : bigSep Finset.univ Φ = iprop(Φ 7 ∗ bigSep Finset.univ fun j : Fin 7 => Φ j.castSucc) := by
  rw [show (Finset.univ : Finset (Fin 8)) = insert 7 (Finset.univ.map (Fin.castSuccEmb : Fin 7 ↪ Fin 8)) from by decide,
    bigSep_insert (by decide), bigSep_map]
  rfl

/-- Something for each of seven, counted from the other end. -/
theorem bigSep_rev (Φ : Fin 7 → sProp 𝕄) : bigSep Finset.univ Φ = bigSep Finset.univ fun j : Fin 7 => Φ j.rev :=
  bigSep_univ_equiv Fin.revPerm Φ

/-! ## The slots are apart and make up their buffer -/

theorem slot8_disjoint (j j' : Fin 8) (h : j ≠ j') : Disjoint (slot8 j).set (slot8 j').set :=
  Rect.unit_disjoint (0 : Fin 3) (by
    have : j.val ≠ j'.val := fun e => h (Fin.ext e)
    show j.val + 1 ≤ j'.val ∨ j'.val + 1 ≤ j.val; omega)
theorem slot7_disjoint (j j' : Fin 7) (h : j ≠ j') : Disjoint (slot7 j).set (slot7 j').set :=
  Rect.unit_disjoint (0 : Fin 3) (by
    have : j.val ≠ j'.val := fun e => h (Fin.ext e)
    show j.val + 1 ≤ j'.val ∨ j'.val + 1 ≤ j.val; omega)
theorem row7_disjoint (j j' : Fin 7) (h : j ≠ j') : Disjoint (row7 j).set (row7 j').set :=
  Rect.unit_disjoint (0 : Fin 2) (by
    have : j.val ≠ j'.val := fun e => h (Fin.ext e)
    show j.val + 1 ≤ j'.val ∨ j'.val + 1 ≤ j.val; omega)

theorem slot8_cover : (Finset.univ : Finset (Fin 8)).biUnion (fun j => (slot8 j).set) = Finset.univ := by
  refine Finset.eq_univ_iff_forall.mpr fun i => Finset.mem_biUnion.mpr ⟨(i 0 : Fin 8), Finset.mem_univ _, Rect.mem_set_unit.mpr fun a => ?_⟩
  have h1 : (i 1).val < 512 := (i 1).isLt
  have h2 : (i 2).val < 256 := (i 2).isLt
  fin_cases a
  · exact ⟨Nat.le_refl _, Nat.lt_succ_self _⟩
  · exact ⟨Nat.zero_le _, show (i 1).val < 0 + 512 by omega⟩
  · exact ⟨Nat.zero_le _, show (i 2).val < 0 + 256 by omega⟩
theorem slot7_cover : (Finset.univ : Finset (Fin 7)).biUnion (fun j => (slot7 j).set) = Finset.univ := by
  refine Finset.eq_univ_iff_forall.mpr fun i => Finset.mem_biUnion.mpr ⟨(i 0 : Fin 7), Finset.mem_univ _, Rect.mem_set_unit.mpr fun a => ?_⟩
  have h1 : (i 1).val < 512 := (i 1).isLt
  have h2 : (i 2).val < 256 := (i 2).isLt
  fin_cases a
  · exact ⟨Nat.le_refl _, Nat.lt_succ_self _⟩
  · exact ⟨Nat.zero_le _, show (i 1).val < 0 + 512 by omega⟩
  · exact ⟨Nat.zero_le _, show (i 2).val < 0 + 256 by omega⟩
theorem row7_cover : (Finset.univ : Finset (Fin 7)).biUnion (fun j => (row7 j).set) = Finset.univ := by
  refine Finset.eq_univ_iff_forall.mpr fun i => Finset.mem_biUnion.mpr ⟨(i 0 : Fin 7), Finset.mem_univ _, Rect.mem_set_unit.mpr fun a => ?_⟩
  have h1 : (i 1).val < 128 := (i 1).isLt
  fin_cases a
  · exact ⟨Nat.le_refl _, Nat.lt_succ_self _⟩
  · exact ⟨Nat.zero_le _, show (i 1).val < 0 + 128 by omega⟩

/-! ## The products to send -/

/-- The elements of slot `j`. -/
def sSet (j : Fin 8) : Finset (cc0_scratch0 : Ref sig .tc).ty.Idx := ((sM : Memref sig .tc .vmem S8x512x256 .f32).access (slot8 j) : View sig .tc _ _ _).set
theorem sSet_disjoint (j j' : Fin 8) (h : j ≠ j') : Disjoint (sSet j) (sSet j') := by
  unfold sSet; rw [View.set_slice_whole, View.set_slice_whole]; exact slot8_disjoint j j' h
theorem sSet_cover : (Finset.univ : Finset (Fin 8)).biUnion sSet = Finset.univ := by
  have e : sSet = fun j => (slot8 j).set := funext fun j => View.set_slice_whole _ _
  rw [e]; exact slot8_cover

theorem sPts_intro (c : Dev nD) (j : Fin 8) (f : Buf (Elt F) ((c : Thread nD τ).loc cc0_scratch0)) :
    (((c : Thread nD τ).loc cc0_scratch0) ↦[sSet j]{fullShare} f : sProp 𝕄) ⊢ iprop(∃ X, sPts c j X) := by
  unfold sSet
  iintro H
  iexists ((sSlot j : Memref sig .tc .vmem S512x256 .f32).view.read (Elt F) f)
  rw [sPts_eq]
  iexists f; isplitr; · (ipureintro; rfl)
  iexact H
theorem sPts_elim (c : Dev nD) (j : Fin 8) :
    (iprop(∃ X, sPts c j X) : sProp 𝕄) ⊢ iprop(∃ f : Buf (Elt F) ((c : Thread nD τ).loc cc0_scratch0), ((c : Thread nD τ).loc cc0_scratch0) ↦[sSet j]{fullShare} f) := by
  unfold sSet
  iintro ⟨%X, H⟩
  ihave H := (Entails.of_eq (sPts_eq c j X)) $$ H
  icases H with ⟨%f, -, H⟩
  iexists f; iexact H

theorem sSlots_split (c : Dev nD) : (someOf c cc0_scratch0 : sProp 𝕄) ⊢ bigSep Finset.univ fun j : Fin 8 => iprop(∃ X, sPts c j X) := by
  have h (f : Buf (Elt F) ((c : Thread nD τ).loc cc0_scratch0)) : (((c : Thread nD τ).loc cc0_scratch0) ↦{fullShare} f : sProp 𝕄)
      ⊢ bigSep Finset.univ fun j : Fin 8 => iprop(∃ X, sPts c j X) := by
    rw [Ring.pointsTo_blocks (ℓ := (c : Thread nD τ).loc cc0_scratch0) sSet sSet_disjoint sSet_cover f]
    exact bigSep_mono fun j _ => sPts_intro c j f
  iintro ⟨%f, H⟩; iapply (h f); iexact H

theorem sSlots_join (c : Dev nD) : (bigSep Finset.univ fun j : Fin 8 => iprop(∃ X, sPts c j X)) ⊢ (someOf c cc0_scratch0 : sProp 𝕄) :=
  (bigSep_mono fun j _ => sPts_elim c j).trans (Ring.pointsTo_blocks_join_exists (ℓ := (c : Thread nD τ).loc cc0_scratch0) sSet
    sSet_disjoint sSet_cover (fun _ => (Scalar.ofBits .f32 0x00000000#32 : F .f32)))

/-! ## The products received -/

/-- The elements of slot `j`. -/
def rSet (j : Fin 7) : Finset (cc0_scratch1 : Ref sig .tc).ty.Idx := ((rM : Memref sig .tc .vmem S7x512x256 .f32).access (slot7 j) : View sig .tc _ _ _).set
theorem rSet_disjoint (j j' : Fin 7) (h : j ≠ j') : Disjoint (rSet j) (rSet j') := by
  unfold rSet; rw [View.set_slice_whole, View.set_slice_whole]; exact slot7_disjoint j j' h
theorem rSet_cover : (Finset.univ : Finset (Fin 7)).biUnion rSet = Finset.univ := by
  have e : rSet = fun j => (slot7 j).set := funext fun j => View.set_slice_whole _ _
  rw [e]; exact slot7_cover

theorem rPts_intro (c : Dev nD) (j : Fin 7) (f : Buf (Elt F) ((c : Thread nD τ).loc cc0_scratch1)) :
    (((c : Thread nD τ).loc cc0_scratch1) ↦[rSet j]{fullShare} f : sProp 𝕄) ⊢ iprop(∃ X, rPts c j X) := by
  unfold rSet
  iintro H
  iexists ((rSlot j : Memref sig .tc .vmem S512x256 .f32).view.read (Elt F) f)
  rw [rPts_eq]
  iexists f; isplitr; · (ipureintro; rfl)
  iexact H
theorem rPts_elim (c : Dev nD) (j : Fin 7) :
    (iprop(∃ X, rPts c j X) : sProp 𝕄) ⊢ iprop(∃ f : Buf (Elt F) ((c : Thread nD τ).loc cc0_scratch1), ((c : Thread nD τ).loc cc0_scratch1) ↦[rSet j]{fullShare} f) := by
  unfold rSet
  iintro ⟨%X, H⟩
  ihave H := (Entails.of_eq (rPts_eq c j X)) $$ H
  icases H with ⟨%f, -, H⟩
  iexists f; iexact H

theorem rSlots_split (c : Dev nD) : (someOf c cc0_scratch1 : sProp 𝕄) ⊢ bigSep Finset.univ fun j : Fin 7 => iprop(∃ X, rPts c j X) := by
  have h (f : Buf (Elt F) ((c : Thread nD τ).loc cc0_scratch1)) : (((c : Thread nD τ).loc cc0_scratch1) ↦{fullShare} f : sProp 𝕄)
      ⊢ bigSep Finset.univ fun j : Fin 7 => iprop(∃ X, rPts c j X) := by
    rw [Ring.pointsTo_blocks (ℓ := (c : Thread nD τ).loc cc0_scratch1) rSet rSet_disjoint rSet_cover f]
    exact bigSep_mono fun j _ => rPts_intro c j f
  iintro ⟨%f, H⟩; iapply (h f); iexact H

theorem rSlots_join (c : Dev nD) : (bigSep Finset.univ fun j : Fin 7 => iprop(∃ X, rPts c j X)) ⊢ (someOf c cc0_scratch1 : sProp 𝕄) :=
  (bigSep_mono fun j _ => rPts_elim c j).trans (Ring.pointsTo_blocks_join_exists (ℓ := (c : Thread nD τ).loc cc0_scratch1) rSet
    rSet_disjoint rSet_cover (fun _ => (Scalar.ofBits .f32 0x00000000#32 : F .f32)))

/-! ## The largest values received -/

theorem bRows_split (c : Dev nD) : (someOf c cc0_scratch3 : sProp 𝕄) ⊢ bigSep Finset.univ fun j : Fin 7 => iprop(∃ X, bPts c j X) := by
  have h (f : Buf (Elt F) ((c : Thread nD τ).loc cc0_scratch3)) : (((c : Thread nD τ).loc cc0_scratch3) ↦{fullShare} f : sProp 𝕄)
      ⊢ bigSep Finset.univ fun j : Fin 7 => iprop(∃ X, bPts c j X) := by
    rw [← owns_whole (c : Thread nD τ) cc0_scratch3 fullShare f]
    refine (owns_rects (c : Thread nD τ) bM fullShare row7 (fun _ _ => rfl) row7_disjoint row7_cover f).trans (bigSep_mono fun j _ => show (_ : sProp 𝕄) ⊢ _ from ?_)
    iintro H; iexists _; iexact H
  iintro ⟨%f, H⟩; iapply (h f); iexact H

theorem bRows_join (c : Dev nD) : (bigSep Finset.univ fun j : Fin 7 => bPts c j fun _ => ownMax m ρ (peer c j.rev))
    ⊢ (((c : Thread nD τ).loc cc0_scratch3) ↦{fullShare} maxV m ρ c : sProp 𝕄) := by
  have hn : ∀ e, Nonempty (Elt F e) := fun e => by infer_instance
  rw [← owns_whole (c : Thread nD τ) cc0_scratch3 fullShare]
  refine (bigSep_mono fun j _ => ?_).trans (owns_of_rects (c : Thread nD τ) bM fullShare row7 (fun _ _ => rfl) row7_disjoint row7_cover (maxV m ρ c))
  rw [show (fun i => maxV m ρ c ((row7 j).emb i)) = fun _ => ownMax m ρ (peer c j.rev) from funext fun i => by
    unfold maxV
    rw [show (((row7 j).emb i) 0 : Fin 7) = j from Fin.ext (by
      have h : (i 0).val < 1 := (i 0).isLt
      show j.val + 1 * (i 0).val = j.val; omega)]]
  exact BI.Entails.refl _

/-! ## This device's largest value, shared among its readers -/

theorem aPts_eq (c : Dev nD) (i : Fin 8) : (aPts m ρ c i : sProp 𝕄)
    = ((c : Thread nD τ).loc cc0_scratch2) ↦{ShareLeaves.leaf 3 fullShare i} (fun _ => ownMax m ρ c : Buf (Elt F) ((c : Thread nD τ).loc cc0_scratch2)) :=
  owns_whole (c : Thread nD τ) cc0_scratch2 _ _

theorem aShares (c : Dev nD) : (((c : Thread nD τ).loc cc0_scratch2) ↦{fullShare} (fun _ => ownMax m ρ c : Buf (Elt F) ((c : Thread nD τ).loc cc0_scratch2)) : sProp 𝕄)
    = bigSep Finset.univ fun i : Fin 8 => aPts m ρ c i := by
  rw [ShareLeaves.pointsTo_leaves Finset.univ _ 3 fullShare]
  exact bigSep_congr fun i _ => (aPts_eq m ρ c i).symm

end Cert.KernelIdealProof

end
-- ==== Proof.KernelIdealBody.lean ====
/-
The body of the kernel on one device, from what the launch hands it to what it leaves: the whole exchange, step by
step.
-/
module

public import proofs.«01_k».proof.Proof.KernelIdealBufs
public import proofs.«01_k».proof.Proof.Gen.KernelIdeal.Points

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch hands each device -/

/-- Device `c`'s place at each of its transfer semaphores of kind `k`; -/
def places (k : Fin 4) (c : Dev nD) : sProp 𝕄 := bigSep Finset.univ fun j => atPos ER (dcell k j c) 0 ∅ 0
/-- the rights to complete transfers of kind `k` on its own semaphores, -/
def rightsHere (k : Fin 4) (c : Dev nD) : sProp 𝕄 := bigSep Finset.univ fun j => dutyTok ER (dcell k j c) 0 0
/-- and on those of the devices they go to; -/
def rightsThere (k : Fin 4) (c : Dev nD) : sProp 𝕄 := bigSep Finset.univ fun j => dutyTok ER (dcell k j (peer c j)) 0 0
/-- the rights to raise the barriers of the others. -/
def rightsBar (c : Dev nD) : sProp 𝕄 := bigSep Finset.univ fun j => dutyTok ER (barCell (peer c j)) 0 j.rev

/-- The rights device `c` spends. -/
def rights (c : Dev nD) : sProp 𝕄 := iprop(rightsBar c ∗ rightsHere 0 c ∗ rightsThere 1 c ∗ rightsHere 2 c ∗ rightsThere 3 c)
/-- Its places. -/
def allPlaces (c : Dev nD) : sProp 𝕄 := iprop(atPos ER (barCell c) 0 ∅ 0 ∗ places 0 c ∗ places 1 c ∗ places 2 c ∗ places 3 c)
/-- What is due to it from the others' transfers of kind `k`. -/
def due (k : Fin 4) (c : Dev nD) : sProp 𝕄 := bigSep Finset.univ fun j => cred (tallyAt (dcell k j c) () (kAmount k))

/-- What the launch hands device `c`. -/
def start (c : Dev nD) : sProp 𝕄 :=
  iprop((∃ K, know m ρ K ∗ allPlaces c ∗ rights c) ∗ cred (tallyAt (barCell c) () 7) ∗ due 1 c ∗ due 3 c)

/-- The transfer semaphores of kind `k`, at zero. -/
def zeros (k : Fin 4) (c : Dev nD) : sProp 𝕄 := bigSep Finset.univ fun j => semVal (dcell k j c) 0

/-- The scratch buffers, at some contents. -/
def scratch (c : Dev nD) : sProp 𝕄 := iprop(someOf c cc0_scratch0 ∗ someOf c cc0_scratch1 ∗ someOf c cc0_scratch2 ∗ someOf c cc0_scratch3)

/-- Device `c` before the body, -/
def Φ₀ (c : Dev nD) : sProp 𝕄 := iprop(start m ρ c ∗ scratch c)
/-- and after it. -/
def Φ₁ (c : Dev nD) : sProp 𝕄 := iprop(scratch c ∗ semVal (barCell c) 0 ∗ zeros 0 c ∗ zeros 1 c ∗ zeros 2 c ∗ zeros 3 c)

variable (K : Dev nD × (Unit ⊕ (Fin 4 × Fin 7)) → ℕ)

/-- Device `c`'s rows of `x`, in their staging buffer. -/
def xPts (c : Dev nD) : sProp 𝕄 := ((c : Thread nD τ).loc cc0_stg0_0) ↦{fullShare} xs m ρ c

theorem waitNeeds_all (k : Fin 4) (c : Dev nD) : iprop(due k c ∗ places k c) ⊢ (bigSep Finset.univ fun j => waitNeeds k c j : sProp 𝕄) := by
  unfold due places waitNeeds; rw [bigSep_sep']
theorem waitGives_all (k : Fin 4) (c : Dev nD) : (bigSep Finset.univ fun j => waitGives m ρ k c j) ⊢ (iprop((bigSep Finset.univ fun j => dmaPay m ρ k j c) ∗ zeros k c) : sProp 𝕄) := by
  unfold waitGives zeros; rw [bigSep_sep']

/-- The signals take the rights to raise the barriers and all of the landing buffers; -/
theorem sigNeeds_all (c : Dev nD) : iprop(rightsBar c ∗ someOf c cc0_scratch1 ∗ someOf c cc0_scratch3) ⊢ (bigSep Finset.univ fun j => sigNeeds c j : sProp 𝕄) := by
  unfold sigNeeds rightsBar
  rw [bigSep_sep', bigSep_sep', ← bigSep_rev (fun j => iprop(∃ X, rPts c j X)), ← bigSep_rev (fun j => iprop(∃ X, bPts c j X))]
  iintro ⟨H, Hr, Hb⟩
  isplitl [H]; · iexact H
  isplitl [Hr]; · iapply (rSlots_split c); iexact Hr
  iapply (bRows_split c); iexact Hb

/-- the barrier brings the slots and the rows this device writes. -/
theorem barPay_all (c : Dev nD) : (bigSep Finset.univ fun j => barPay c j : sProp 𝕄)
    = iprop((bigSep Finset.univ fun j => iprop(∃ X, rPts (peer c j) j X)) ∗ bigSep Finset.univ fun j => iprop(∃ X, bPts (peer c j) j X)) := by
  unfold barPay; rw [bigSep_sep']

theorem prodNeeds_all (c : Dev nD) : iprop(rightsHere 0 c ∗ rightsThere 1 c ∗ (bigSep Finset.univ fun j => iprop(∃ X, rPts (peer c j) j X))
      ∗ bigSep Finset.univ fun j : Fin 7 => iprop(∃ X, sPts c j.castSucc X))
    ⊢ (bigSep Finset.univ fun j => prodNeeds c j : sProp 𝕄) := by
  unfold prodNeeds rightsHere rightsThere; rw [bigSep_sep', bigSep_sep', bigSep_sep']

theorem maxNeeds_all (c : Dev nD) : iprop(rightsHere 2 c ∗ rightsThere 3 c ∗ (bigSep Finset.univ fun j => iprop(∃ X, bPts (peer c j) j X))
      ∗ bigSep Finset.univ fun j : Fin 7 => aPts m ρ c j.castSucc)
    ⊢ (bigSep Finset.univ fun j => maxNeeds m ρ c j : sProp 𝕄) := by
  unfold maxNeeds rightsHere rightsThere; rw [bigSep_sep', bigSep_sep', bigSep_sep']

/-- The sent slots, once read, and this device's own are the whole buffer. -/
theorem sBack (c : Dev nD) : iprop((bigSep Finset.univ fun j => dmaPay m ρ 0 j c) ∗ sPts c 7 (prod m ρ c c)) ⊢ (someOf c cc0_scratch0 : sProp 𝕄) := by
  refine .trans ?_ (sSlots_join c)
  rw [bigSep_eight]
  iintro ⟨H, H7⟩
  isplitl [H7]; · iexists _; iexact H7
  iapply (show (bigSep Finset.univ fun j => dmaPay m ρ 0 j c) ⊢ (bigSep Finset.univ fun j : Fin 7 => iprop(∃ X, sPts c j.castSucc X) : sProp 𝕄) from
    bigSep_mono fun j _ => show (sPts c j.castSucc (prod m ρ c (peer c j)) : sProp 𝕄) ⊢ _ by iintro H; iexists _; iexact H)
  iexact H

/-- So are the received slots; -/
theorem rBack (c : Dev nD) : (bigSep Finset.univ fun j => rPts c j (prod m ρ (peer c j.rev) c)) ⊢ (someOf c cc0_scratch1 : sProp 𝕄) := by
  refine .trans ?_ (rSlots_join c)
  exact bigSep_mono fun j _ => show (rPts c j (prod m ρ (peer c j.rev) c) : sProp 𝕄) ⊢ _ by iintro H; iexists _; iexact H

/-- and the shares of the largest value. -/
theorem aBack (c : Dev nD) : iprop((bigSep Finset.univ fun j => dmaPay m ρ 2 j c) ∗ aPts m ρ c 7) ⊢ (someOf c cc0_scratch2 : sProp 𝕄) := by
  iintro ⟨H, H7⟩
  iexists (fun _ => ownMax m ρ c)
  rw [aShares, bigSep_eight]
  isplitl [H7]; · iexact H7
  iexact H

/-! ## The body -/

set_option maxHeartbeats 1600000 in
theorem sound_form (c : Dev nD) (Kt : PUnit → sProp 𝕄) :
    iprop(Φ₀ m ρ c ∗ owing c (O₀ c) ∗ xPts m ρ c ∗ wPts m ρ c ∗ someOf c cc0_stg2_0
        ∗ ((Φ₁ c ∗ owing c 0 ∗ xPts m ρ c ∗ wPts m ρ c ∗ (((c : Thread nD τ).loc cc0_stg2_0) ↦{fullShare} outV m ρ c)) -∗ Kt ⟨⟩))
      ⊢ WP c form Kt := by
  unfold form Φ₀ start scratch allPlaces rights O₀ WP
  rw [wp_deviceId]
  iintro ⟨⟨⟨⟨%K, #Hkn, ⟨HaB, HaS, HaR, HaA, HaV⟩, Ht0, Ht1, Ht2, Ht3, Ht4⟩, HcB, HcR, HcV⟩, Hs, Hr, Ha, Hb⟩, HO, Hx, Hw, Ho, Hk⟩
  -- the signals
  ihave Hneeds := (sigNeeds_all c) $$ [Ht0 Hr Hb]
  · isplitl [Ht0]; · iexact Ht0
    isplitl [Hr] <;> iassumption
  iapply (seven_wp (know m ρ K) c Kt (signalStep c) (fun _ => ()) (sigNeeds c) (fun _ => iprop(emp))
    (fun i => owing c (left (owedDma 3 c) 0 + left (owedDma 1 c) 0 + left (owedBar c) i)) _
    fun j k => wp_signalStep m ρ K c Kt _ j k) $$ [Hneeds HO]
  · isplitr; · iexact Hkn
    isplitl [Hneeds] <;> iassumption
  iintro ⟨-, HO⟩
  rw [left_end, add_zero]
  -- the barrier
  iapply (wp_barrier m ρ K c Kt 0 0 _) $$ [HcB HaB HO]
  · isplitr; · iexact Hkn
    isplitl [HcB HaB]
    · isplitl [HcB] <;> iassumption
    iexact HO
  iintro ⟨Hpay, HzB, HO⟩
  ihave Hpay := (Entails.of_eq (barPay_all c)) $$ Hpay
  icases Hpay with ⟨Hrs, Hbs⟩
  -- the rows of `x`
  unfold xPts
  iapply (wp_load 𝒱₀ (c : Thread nD τ) none Set.univ (m := xM) (Finset.subset_univ _)) $$ Hx; iintro Hx
  rw [read_xAll]
  -- the products
  ihave Hs := (sSlots_split c) $$ Hs
  ihave Hs := (Entails.of_eq (bigSep_eight fun j => iprop(∃ X, sPts c j X))) $$ Hs
  icases Hs with ⟨Hs7, Hs⟩
  ihave Hneeds := (prodNeeds_all c) $$ [Ht1 Ht2 Hrs Hs]
  · isplitl [Ht1]; · iexact Ht1
    isplitl [Ht2]; · iexact Ht2
    isplitl [Hrs] <;> iassumption
  iapply (seven_wp (know m ρ K) c Kt (prodStep c (k0_pay1 (xs m ρ c))) (runMax m ρ c) (prodNeeds c) (fun j => cred (tallyAt (dcell 0 j c) () (kAmount 0)))
    (fun i => iprop(owing c (left (owedDma 3 c) 0 + left (owedDma 1 c) i) ∗ wPts m ρ c)) _
    fun j k => wp_prodStep m ρ K c _ Kt j k) $$ [Hneeds HO Hw]
  · isplitr; · iexact Hkn
    isplitl [Hneeds]; · iexact Hneeds
    isplitl [HO] <;> iassumption
  iintro ⟨HcS, HO, Hw⟩
  rw [left_end, add_zero]
  -- this device's own product
  iapply (wp_ownStep m ρ c Kt _) $$ [Hw Hs7 Ha]
  · isplitl [Hw]; · iexact Hw
    isplitl [Hs7] <;> iassumption
  iintro ⟨Hw, Hs7, Ha⟩
  -- the largest value, to each of the others
  ihave Ha := (Entails.of_eq ((aShares m ρ c).trans (bigSep_eight _))) $$ Ha
  icases Ha with ⟨Ha7, Ha⟩
  ihave Hneeds := (maxNeeds_all m ρ c) $$ [Ht3 Ht4 Hbs Ha]
  · isplitl [Ht3]; · iexact Ht3
    isplitl [Ht4]; · iexact Ht4
    isplitl [Hbs] <;> iassumption
  iapply (seven_wp (know m ρ K) c Kt (maxStep c) (fun _ => ()) (maxNeeds m ρ c) (fun j => cred (tallyAt (dcell 2 j c) () (kAmount 2)))
    (fun i => owing c (left (owedDma 3 c) i)) _
    fun j k => wp_maxStep m ρ K c Kt j k) $$ [Hneeds HO]
  · isplitr; · iexact Hkn
    isplitl [Hneeds] <;> iassumption
  iintro ⟨HcA, HO⟩
  rw [left_end]
  -- the others' largest values
  ihave Hneeds := (waitNeeds_all 3 c) $$ [HcV HaV]
  · isplitl [HcV] <;> iassumption
  iapply (seven_wp (know m ρ K) c Kt maxWait (fun _ => ()) (waitNeeds 3 c) (waitGives m ρ 3 c) (fun _ => owing c 0) _
    fun j k => wp_maxWait m ρ K c j k Kt) $$ [Hneeds HO]
  · isplitr; · iexact Hkn
    isplitl [Hneeds] <;> iassumption
  iintro ⟨Hg, HO⟩
  ihave Hg := (waitGives_all m ρ 3 c) $$ Hg
  icases Hg with ⟨Hbs, HzV⟩
  ihave Hb := (show (bigSep Finset.univ fun j => dmaPay m ρ 3 j c) ⊢ ((((c : Thread nD τ).loc cc0_scratch3) ↦{fullShare} maxV m ρ c) : sProp 𝕄) from
    bRows_join m ρ c) $$ Hbs
  -- the others' products
  ihave Hneeds := (waitNeeds_all 1 c) $$ [HcR HaR]
  · isplitl [HcR] <;> iassumption
  iapply (seven_wp (know m ρ K) c Kt prodWait (fun _ => ()) (waitNeeds 1 c) (waitGives m ρ 1 c) (fun _ => owing c 0) _
    fun j k => wp_prodWait m ρ K c j k Kt) $$ [Hneeds HO]
  · isplitr; · iexact Hkn
    isplitl [Hneeds] <;> iassumption
  iintro ⟨Hg, HO⟩
  ihave Hg := (waitGives_all m ρ 1 c) $$ Hg
  icases Hg with ⟨Hrs, HzR⟩
  -- the scale, and the result
  iapply (wp_scaleStep m ρ c Kt _) $$ [Hb Hs7 Ho]
  · isplitl [Hb]; · iexact Hb
    isplitl [Hs7]; · iexact Hs7
    unfold oPts
    icases Ho with ⟨%f, Ho⟩
    iexists f; isplitr; · (ipureintro; exact fun i ⟨s, hs, _⟩ => absurd hs (Finset.notMem_empty s))
    iexact Ho
  iintro ⟨Hb, Hs7, Ho⟩
  iapply (seven_wp iprop(emp) c Kt (outStep c (scaleV m ρ c)) (fun _ => ()) (fun j => rPts c j (prod m ρ (peer c j.rev) c)) (fun j => rPts c j (prod m ρ (peer c j.rev) c))
    (fun i => oPts m ρ c (done c i)) _
    fun j k => wp_outStep m ρ c Kt j k) $$ [Hrs Ho]
  · isplitr; · iempintro
    isplitl [Hrs]; · iexact Hrs
    iexact Ho
  iintro ⟨Hrs, Ho⟩
  ihave Ho := (oPts_done m ρ c) $$ Ho
  -- what was sent has been read
  ihave Hneeds := (waitNeeds_all 0 c) $$ [HcS HaS]
  · isplitl [HcS]; · unfold due; iexact HcS
    iexact HaS
  iapply (seven_wp (know m ρ K) c Kt prodSent (fun _ => ()) (waitNeeds 0 c) (waitGives m ρ 0 c) (fun _ => owing c 0) _
    fun j k => wp_prodSent m ρ K c j k Kt) $$ [Hneeds HO]
  · isplitr; · iexact Hkn
    isplitl [Hneeds] <;> iassumption
  iintro ⟨Hg, HO⟩
  ihave Hg := (waitGives_all m ρ 0 c) $$ Hg
  icases Hg with ⟨Hs, HzS⟩
  ihave Hneeds := (waitNeeds_all 2 c) $$ [HcA HaA]
  · isplitl [HcA]; · unfold due; iexact HcA
    iexact HaA
  iapply (seven_wp (know m ρ K) c Kt maxSent (fun _ => ()) (waitNeeds 2 c) (waitGives m ρ 2 c) (fun _ => owing c 0) _
    fun j k => wp_maxSent m ρ K c j k Kt) $$ [Hneeds HO]
  · isplitr; · iexact Hkn
    isplitl [Hneeds] <;> iassumption
  iintro ⟨Hg, HO⟩
  ihave Hg := (waitGives_all m ρ 2 c) $$ Hg
  icases Hg with ⟨Ha, HzA⟩
  unfold WP
  rw [wp_ret]; imodintro
  iapply Hk
  unfold Φ₁ scratch
  isplitl [Hs Hs7 Hrs Ha Ha7 Hb HzB HzS HzR HzA HzV]
  · isplitl [Hs Hs7 Hrs Ha Ha7 Hb]
    · isplitl [Hs Hs7]
      · iapply (sBack m ρ c); isplitl [Hs] <;> iassumption
      isplitl [Hrs]; · iapply (rBack m ρ c); iexact Hrs
      isplitl [Ha Ha7]
      · iapply (aBack m ρ c); isplitl [Ha] <;> iassumption
      iexists _; iexact Hb
    isplitl [HzB]; · iexact HzB
    isplitl [HzS]; · iexact HzS
    isplitl [HzR]; · iexact HzR
    isplitl [HzA] <;> iassumption
  isplitl [HO]; · iexact HO
  isplitl [Hx]; · iexact Hx
  isplitl [Hw] <;> iassumption

/-! ## The grid's one point -/

/-- The one point of the grid. -/
def t₀ : Fin cfg0.N := t0_0

/-- The proof data of the launch on device `c`: the arguments are left as they came, the result holds `outV`, and the
    device owes `O₀` at the start and nothing at the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` at contents `X`. -/
def staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from, -/
def bodyPre (c : Dev nD) : sProp 𝕄 :=
  iprop(Φ₀ m ρ c ∗ (dats m ρ 0 c).owesAt () t₀.castSucc
    ∗ (∃ d, staged c cc0_stg0_0 ((dats m ρ 0 c).before (0 : Fin 3) t₀ d))
    ∗ (∃ d, staged c cc0_stg1_0 ((dats m ρ 0 c).before (1 : Fin 3) t₀ d))
    ∗ (∃ d, staged c cc0_stg2_0 ((dats m ρ 0 c).before (2 : Fin 3) t₀ d)))
/-- and what it ends in. -/
def bodyPost (c : Dev nD) : sProp 𝕄 :=
  iprop(Φ₁ c ∗ (dats m ρ 0 c).owesAt () t₀.succ ∗ staged c cc0_stg0_0 (xs m ρ c) ∗ staged c cc0_stg1_0 (ws m ρ c) ∗ staged c cc0_stg2_0 (outV m ρ c))

theorem before_x (c : Dev nD) (d) : (dats m ρ 0 c).before (0 : Fin 3) t₀ d = xs m ρ c := by
  unfold Dat.before; rw [if_pos (fetch0_0 t₀)]; rfl
theorem before_w (c : Dev nD) (d) : (dats m ρ 0 c).before (1 : Fin 3) t₀ d = ws m ρ c := by
  unfold Dat.before; rw [if_pos (fetch0_1 t₀)]; rfl

/-- What device `c` owes at a point, whatever it has waited on. -/
theorem owesAt_start (c : Dev nD) : (dats m ρ 0 c).owesAt () t₀.castSucc ⊢ (owing c (O₀ c) : sProp 𝕄) := by
  unfold Dat.owesAt Pipeline.owesWithin owing
  rw [show (dats m ρ 0 c).owed t₀.castSucc = O₀ c from rfl]
  iintro ⟨%W, -, HO⟩; iexists W; iexact HO
theorem owesAt_end (c : Dev nD) : owing c 0 ⊢ ((dats m ρ 0 c).owesAt () t₀.succ : sProp 𝕄) := by
  unfold Dat.owesAt Pipeline.owesWithin owing
  rw [show (dats m ρ 0 c).owed t₀.succ = 0 from rfl]
  iintro ⟨%W, HO⟩; iexists W; isplitr
  · ipureintro; exact fun _ _ => Or.inl trivial
  iexact HO

theorem sound_body (c : Dev nD) : bodyPre m ρ c ⊢ WP c form fun _ => bodyPost m ρ c := by
  unfold bodyPre staged
  iintro ⟨HΦ, HO, ⟨%dx, %fx, %hx, Hx⟩, ⟨%dw, %fw, %hw, Hw⟩, %d, %fo, -, Ho⟩
  rw [before_x] at hx; rw [before_w] at hw; subst hx hw
  iapply (sound_form m ρ c fun _ => bodyPost m ρ c)
  isplitl [HΦ]; · iexact HΦ
  isplitl [HO]; · iapply (owesAt_start m ρ c); iexact HO
  isplitl [Hx]; · unfold xPts; iexact Hx
  isplitl [Hw]; · unfold wPts; iexact Hw
  isplitl [Ho]; · iexists fo; iexact Ho
  unfold bodyPost staged xPts wPts
  iintro ⟨HΦ, HO, Hx, Hw, Ho⟩
  isplitl [HΦ]; · iexact HΦ
  isplitl [HO]; · iapply (owesAt_end m ρ c); iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body at the grid's point. -/
theorem body_obligation (c : Dev nD) : BodyObligation (dats (F := F) m ρ 0 c) (defs₀ (F := F)) 𝒱₀ () Set.univ := fun t => by
  rw [show t = t₀ from fin_N0 t, bigSep_W0, bigSep_W0]
  simp only [owns_whole_eq]
  show bodyPre m ρ c ⊢ WP c (cc0_body xM _ wM _ oM _ sM _ rM _ aM _ bM _ cc0_scratch4 cc0_scratch5 cc0_scratch6 cc0_scratch7) fun _ => bodyPost m ρ c
  rw [body_form]
  exact sound_body m ρ c

end Cert.KernelIdealProof

end
-- ==== Proof.KernelIdealRun.lean ====
/-
The launch: the semaphores of all devices are set up at once, their rights are dealt around the ring, and the eight
bodies run to the end.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and rights -/

theorem ownSemFacts : Pipeline.OwnSemFacts cfg0.spec osem where
  isScoped := by decide
  inj := fun a b h => dsem_injective (SemLoc.dma.inj h)
  disj := by decide

theorem csem_injective : Function.Injective csem := by
  rintro (⟨⟩ | a) (⟨⟩ | b) h
  · rfl
  · cases h
  · cases h
  · exact congrArg Sum.inr (dsem_injective (SemLoc.dma.inj h))

theorem kcell_injective : Function.Injective kcell := by
  rintro ⟨c, x⟩ ⟨c', x'⟩ h
  have hc : c = c' := congrArg (fun g : GSem nD τ sig => g.1.1) h
  have hx : x = x' := csem_injective (congrArg Prod.snd h)
  rw [hc, hx]

/-- Two transfer semaphores are the same only if they are of one kind, one step and one device; -/
theorem dcell_iff {k k' : Fin 4} {j j' : Fin 7} {c d : Dev nD} : dcell k j c = dcell k' j' d ↔ k = k' ∧ j = j' ∧ c = d := by
  refine ⟨fun h => ?_, fun ⟨hk, hj, hc⟩ => by rw [hk, hj, hc]⟩
  have h' := kcell_injective (a₁ := (c, .inr (k, j))) (a₂ := (d, .inr (k', j'))) h
  simp only [Prod.mk.injEq, Sum.inr.injEq] at h'
  exact ⟨h'.2.1, h'.2.2, h'.1⟩
/-- two barriers, only if they are of one device; -/
theorem barCell_iff {c d : Dev nD} : barCell c = barCell d ↔ c = d :=
  ⟨fun h => congrArg (fun g : GSem nD τ sig => g.1.1) h, fun h => by rw [h]⟩
/-- and no transfer semaphore is a barrier. -/
theorem dcell_ne_bar (k : Fin 4) (j : Fin 7) (c d : Dev nD) : dcell k j c ≠ barCell d := fun h => by
  have := congrArg Prod.snd h; cases this

/-- A conjunction over some cases and the transfer semaphores of a device, the latter taken kind by kind. -/
theorem byKind {A : Type} [Fintype A] (Φ : A ⊕ (Fin 4 × Fin 7) → sProp 𝕄) :
    bigSep Finset.univ Φ = iprop((bigSep Finset.univ fun a => Φ (.inl a)) ∗ (bigSep Finset.univ fun j => Φ (.inr (0, j)))
      ∗ (bigSep Finset.univ fun j => Φ (.inr (1, j))) ∗ (bigSep Finset.univ fun j => Φ (.inr (2, j))) ∗ (bigSep Finset.univ fun j => Φ (.inr (3, j)))) := by
  rw [bigSep_univ_sum, bigSep_univ_prod, bigSep_univ_eq_bigSepL [(0 : Fin 4), 1, 2, 3] (by decide) (by decide)]
  rfl
theorem byKind_one (Φ : Unit ⊕ (Fin 4 × Fin 7) → sProp 𝕄) :
    bigSep Finset.univ Φ = iprop(Φ (.inl ()) ∗ (bigSep Finset.univ fun j => Φ (.inr (0, j)))
      ∗ (bigSep Finset.univ fun j => Φ (.inr (1, j))) ∗ (bigSep Finset.univ fun j => Φ (.inr (2, j))) ∗ (bigSep Finset.univ fun j => Φ (.inr (3, j)))) := by
  rw [byKind, bigSep_univ_of_subsingleton ()]

/-- All the cells of the exchange; -/
def ringCells : Finset (GSem nD τ sig) := Finset.univ.map ⟨kcell, kcell_injective⟩

/-- the rights minted for them: seven for a barrier, one for each transfer semaphore. -/
abbrev tokOf (cy : Dev nD × (Fin 7 ⊕ (Fin 4 × Fin 7))) : GSem nD τ sig × ℕ × Dty :=
  match cy.2 with
  | .inl j => (barCell cy.1, 0, j)
  | .inr kj => (dcell kj.1 kj.2 cy.1, 0, 0)
theorem tokOf_injective : Function.Injective tokOf := by
  rintro ⟨c, j | ⟨k, j⟩⟩ ⟨c', j' | ⟨k', j'⟩⟩ h
  · have h1 : c = c' := barCell_iff.1 (congrArg Prod.fst h)
    have h2 : j = j' := congrArg (fun x : GSem nD τ sig × ℕ × Dty => x.2.2) h
    rw [h1, h2]
  · exact absurd (congrArg Prod.fst h).symm (dcell_ne_bar _ _ _ _)
  · exact absurd (congrArg Prod.fst h) (dcell_ne_bar _ _ _ _)
  · obtain ⟨h1, h2, h3⟩ : k = k' ∧ j = j' ∧ c = c' := dcell_iff.1 (congrArg Prod.fst h)
    rw [h1, h2, h3]
def ringToks : Finset (GSem nD τ sig × ℕ × Dty) := Finset.univ.map ⟨tokOf, tokOf_injective⟩

/-- The ghost state the launch starts from: the pipeline's, and the exchange's. -/
def u₀ : UU :=
  (initOf (Pipeline.cells cfgs cellOf_inj) (Pipeline.launchToks cfgs cellOf_inj), initOf ringCells ringToks)

/-- The rights on device `c`'s own cells. -/
def minted (c : Dev nD) : sProp 𝕄 :=
  bigSep Finset.univ fun y : Fin 7 ⊕ (Fin 4 × Fin 7) => dutyTok ER (tokOf (c, y)).1 (tokOf (c, y)).2.1 (tokOf (c, y)).2.2

/-- What the starting state deals device `c`: its cells' states, its places, and the rights on its own cells. -/
def dealt (c : Dev nD) : sProp 𝕄 :=
  iprop((bigSep Finset.univ fun x => roundState ER (sched m ρ) (kcell (c, x)) 0)
    ∗ (bigSep Finset.univ fun x => iprop(atPos ER (kcell (c, x)) 0 ∅ 0 ∗ reached ER (kcell (c, x)) 0)) ∗ minted c)

/-- What all devices know of the cells. -/
def shared (K : Dev nD × (Unit ⊕ (Fin 4 × Fin 7)) → ℕ) : sProp 𝕄 :=
  iprop((bigSep Finset.univ fun cx => cellInv ER (sched m ρ) (K cx) (kcell cx)) ∗ bigSep Finset.univ fun cx => reached ER (kcell cx) 0)
instance shared_persistent (K : Dev nD × (Unit ⊕ (Fin 4 × Fin 7)) → ℕ) : BI.Persistent (shared m ρ K) := by unfold shared; infer_instance

/-- What device `c` has once the cells are set up and the rights dealt around the ring. -/
def settled (c : Dev nD) : sProp 𝕄 := iprop(∃ K, shared m ρ K ∗ allPlaces c ∗ rights c)

theorem fund_ring : BI.own (ER (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun x => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]; rfl
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-- The transfer semaphores are the kernel's own, -/
theorem ownSems0_eq (c : Dev nD) : (Pipeline.ownSems0 (Ix := Unit) (Name := ℕ) (U := UU) (Lvl := ℕ) (Val := Elt F) (τ := τ) osem c : sProp 𝕄)
    = bigSep Finset.univ fun kj : Fin 4 × Fin 7 => semVal (dcell kj.1 kj.2 c) 0 := rfl
/-- and the barrier is the one semaphore of the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun x => semVal (kcell (c, x)) 0 : sProp 𝕄) := by
  rw [ownSems0_eq, unscopedSems0_eq, bigSep_univ_sum, bigSep_univ_of_subsingleton ()]
  rfl

/-- Every cell of device `c` gets its invariant. -/
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun x => iprop(∃ κ : ℕ, cellInv ER (sched m ρ) κ (kcell (c, x))))
          ∗ (bigSep Finset.univ fun x => iprop(atPos ER (kcell (c, x)) 0 ∅ 0 ∗ reached ER (kcell (c, x)) 0)) ∗ minted c) := by
  unfold dealt
  iintro ⟨Hos, Hus, Hst, Hat, Htok⟩
  ihave Hv := (Entails.of_eq (sems0_eq (F := F) c)) $$ [Hos Hus]
  · isplitl [Hus] <;> iassumption
  imod (show iprop((bigSep Finset.univ fun x => semVal (kcell (c, x)) 0) ∗ bigSep Finset.univ fun x => roundState ER (sched m ρ) (kcell (c, x)) 0)
      ⊢ (|={Set.univ}=> bigSep Finset.univ fun x => iprop(∃ κ : ℕ, cellInv ER (sched m ρ) κ (kcell (c, x))) : sProp 𝕄) from by
        rw [← bigSep_sep']
        exact (bigSep_mono fun x _ => (Rounds.body_intro ER (sched m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the rights around the ring -/

/-- What every device has for each step, one may deal to the device that step away. -/
theorem around (Φ : Fin 7 → Dev nD → sProp 𝕄) :
    (bigSep Finset.univ fun c : Dev nD => bigSep Finset.univ fun j => Φ j c) = bigSep Finset.univ fun c : Dev nD => bigSep Finset.univ fun j => Φ j (peer c j) := by
  rw [bigSep_univ_comm, bigSep_univ_comm (fun (c : Dev nD) j => Φ j (peer c j))]
  exact bigSep_congr fun j _ => bigSep_univ_equiv (turn j) (Φ j)

theorem minted_around : (bigSep Finset.univ fun c : Dev nD => (minted c : sProp 𝕄)) = bigSep Finset.univ fun c : Dev nD => rights c := by
  have hbar : (bigSep Finset.univ fun c : Dev nD => bigSep Finset.univ fun j => (dutyTok ER (barCell c) 0 j : sProp 𝕄)) = bigSep Finset.univ fun c : Dev nD => rightsBar c :=
    (bigSep_congr fun c _ => bigSep_rev (fun j => (dutyTok ER (barCell c) 0 j : sProp 𝕄))).trans (around fun j c => dutyTok ER (barCell c) 0 j.rev)
  have hdma (k : Fin 4) : (bigSep Finset.univ fun c : Dev nD => (rightsHere k c : sProp 𝕄)) = bigSep Finset.univ fun c : Dev nD => rightsThere k c :=
    around fun j c => dutyTok ER (dcell k j c) 0 0
  have hm (c : Dev nD) : (minted c : sProp 𝕄) = iprop((bigSep Finset.univ fun j => dutyTok ER (barCell c) 0 j)
      ∗ rightsHere 0 c ∗ rightsHere 1 c ∗ rightsHere 2 c ∗ rightsHere 3 c) := by
    unfold minted; rw [byKind]; rfl
  rw [bigSep_congr fun c _ => hm c]
  unfold rights
  simp only [bigSep_sep']
  rw [hbar, hdma 1, hdma 3]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x => iprop(∃ κ : ℕ, cellInv ER (sched m ρ) κ (kcell (c, x))))
          ∗ (bigSep Finset.univ fun x => iprop(atPos ER (kcell (c, x)) 0 ∅ 0 ∗ reached ER (kcell (c, x)) 0)) ∗ minted c) : sProp 𝕄)
      ⊢ bigSep Finset.univ (settled m ρ) := by
  have hp (c : Dev nD) : (bigSep Finset.univ fun x => (atPos ER (kcell (c, x)) 0 ∅ 0 : sProp 𝕄)) = allPlaces c := by
    unfold allPlaces places; rw [byKind_one]
  rw [bigSep_sep', bigSep_sep', ← bigSep_univ_prod (fun cx : Dev nD × (Unit ⊕ (Fin 4 × Fin 7)) => iprop(∃ κ : ℕ, cellInv ER (sched m ρ) κ (kcell cx))),
    bigSep_congr (s := Finset.univ) (fun (c : Dev nD) _ => bigSep_sep' Finset.univ (fun x => (atPos ER (kcell (c, x)) 0 ∅ 0 : sProp 𝕄)) (fun x => reached ER (kcell (c, x)) 0)),
    bigSep_sep', ← bigSep_univ_prod (fun cx : Dev nD × (Unit ⊕ (Fin 4 × Fin 7)) => (reached ER (kcell cx) 0 : sProp 𝕄)),
    bigSep_congr fun c _ => hp c, minted_around]
  iintro ⟨HI, ⟨Hat, #HR⟩, Htok⟩
  ihave HK := (BI.bigSep_exists_pi Finset.univ (fun (cx : Dev nD × (Unit ⊕ (Fin 4 × Fin 7))) (κ : ℕ) => (cellInv ER (sched m ρ) κ (kcell cx) : sProp 𝕄))) $$ HI
  icases HK with ⟨%K, #HI⟩
  iapply (with_persistent (R := shared m ρ K) (Φ := fun c => iprop(allPlaces c ∗ rights c)) (Ψ := settled m ρ) fun c _ => show iprop(shared m ρ K ∗ allPlaces c ∗ rights c) ⊢ settled m ρ c by
    unfold settled; iintro H; iexists K; iexact H)
  isplitr
  · unfold shared; isplitl; · iexact HI
    iexact HR
  rw [bigSep_sep']
  isplitl [Hat] <;> iassumption

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (settled m ρ) :=
  ((bigSep_mono fun c _ => core_alloc m ρ c).trans (bigSep_fupd _ _)).trans (BI.fupd_mono (regroup m ρ))

/-! ## What is due at the launch -/

/-- What the devices together owe a cell, if each owes `n` for every step to a cell of the device that step away. -/
theorem sum_left (f : Fin 7 → Dev nD → GSem nD τ sig) (n : ℕ) (g : GSem nD τ sig) :
    (∑ d : Dev nD, left (fun j => tallyAt (f j (peer d j)) () n) 0 g ()) = ∑ j : Fin 7, ∑ d : Dev nD, if g = f j d then n else 0 := by
  have h (d : Dev nD) : left (fun j => tallyAt (f j (peer d j)) () n) 0 g () = ∑ j : Fin 7, if g = f j (peer d j) then n else 0 := by
    unfold left
    rw [Finset.filter_true_of_mem fun j _ => Nat.zero_le _, Finset.sum_apply, Finsupp.finset_sum_apply]
    refine Finset.sum_congr rfl fun j _ => ?_
    rw [tallyAt_apply]; simp only [and_true]
  rw [Finset.sum_congr rfl fun d _ => h d, Finset.sum_comm]
  refine Finset.sum_congr rfl fun j _ => ?_
  exact Equiv.sum_comp (turn j) fun d => if g = f j d then n else 0

/-- The devices owe a cell for their values, for their products and for their signals. -/
theorem sum_owed (g : GSem nD τ sig) : (∑ d : Dev nD, O₀ d g ())
    = (∑ j : Fin 7, ∑ d : Dev nD, if g = dcell 3 j d then kAmount 3 else 0) + (∑ j : Fin 7, ∑ d : Dev nD, if g = dcell 1 j d then kAmount 1 else 0)
      + ∑ j : Fin 7, ∑ d : Dev nD, if g = barCell d then 1 else 0 := by
  rw [← sum_left (fun _ => barCell), ← sum_left (dcell 1), ← sum_left (dcell 3), ← Finset.sum_add_distrib, ← Finset.sum_add_distrib]
  exact Finset.sum_congr rfl fun d _ => rfl

theorem sum_bar_dma (k : Fin 4) (n : ℕ) (c : Dev nD) : (∑ j : Fin 7, ∑ d : Dev nD, if barCell c = dcell k j d then n else 0) = 0 :=
  Finset.sum_eq_zero fun j _ => Finset.sum_eq_zero fun d _ => if_neg (Ne.symm (dcell_ne_bar k j d c))
theorem sum_dma_bar (k : Fin 4) (i : Fin 7) (c : Dev nD) : (∑ j : Fin 7, ∑ d : Dev nD, if dcell k i c = barCell d then 1 else 0) = 0 :=
  Finset.sum_eq_zero fun j _ => Finset.sum_eq_zero fun d _ => if_neg (dcell_ne_bar k i c d)
theorem sum_bar_bar (c : Dev nD) : (∑ j : Fin 7, ∑ d : Dev nD, if barCell c = barCell d then 1 else 0) = 7 := by
  simp only [barCell_iff, Finset.sum_ite_eq, Finset.mem_univ, if_true]; rfl
theorem sum_dma_ne {k k' : Fin 4} (h : k ≠ k') (n : ℕ) (i : Fin 7) (c : Dev nD) : (∑ j : Fin 7, ∑ d : Dev nD, if dcell k i c = dcell k' j d then n else 0) = 0 :=
  Finset.sum_eq_zero fun j _ => Finset.sum_eq_zero fun d _ => if_neg fun e => h (dcell_iff.1 e).1
theorem sum_dma_self (k : Fin 4) (n : ℕ) (i : Fin 7) (c : Dev nD) : (∑ j : Fin 7, ∑ d : Dev nD, if dcell k i c = dcell k j d then n else 0) = n := by
  rw [Finset.sum_eq_single i (fun j _ hj => Finset.sum_eq_zero fun d _ => if_neg fun e => hj (dcell_iff.1 e).2.1.symm) (fun h => absurd (Finset.mem_univ _) h),
    Finset.sum_eq_single c (fun d _ hd => if_neg fun e => hd (dcell_iff.1 e).2.2.symm) (fun h => absurd (Finset.mem_univ _) h), if_pos rfl]

/-- A barrier is owed one signal by each of the seven others; -/
theorem owed_bar (c : Dev nD) : (∑ d : Dev nD, O₀ d (barCell c) ()) = 7 := by
  rw [sum_owed, sum_bar_dma, sum_bar_dma, sum_bar_bar]
/-- a receiving semaphore, one transfer. -/
theorem owed_recv (j : Fin 7) (c : Dev nD) : (∑ d : Dev nD, O₀ d (dcell 1 j c) ()) = kAmount 1 := by
  rw [sum_owed, sum_dma_bar, sum_dma_self, sum_dma_ne (by decide), Nat.zero_add, Nat.add_zero]
theorem owed_recvMax (j : Fin 7) (c : Dev nD) : (∑ d : Dev nD, O₀ d (dcell 3 j c) ()) = kAmount 3 := by
  rw [sum_owed, sum_dma_bar, sum_dma_self, sum_dma_ne (by decide), Nat.add_zero]

theorem launch_of {g : GSem nD τ sig} {n : ℕ} (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- What a cell is owed at the launch. -/
def atLaunch (g : GSem nD τ sig) : sProp 𝕄 := cred (tallyOn g (launchCredit (Pipeline.owing O₀) 0 g))
theorem atLaunch_of {g : GSem nD τ sig} {n : ℕ} (h : (∑ d : Dev nD, O₀ d g ()) = n) : (atLaunch g : sProp 𝕄) = cred (tallyAt g () n) :=
  congrArg _ (launch_of h)

theorem creds (c : Dev nD) :
    (Pipeline.launchCred O₀ c : sProp 𝕄) ⊢ iprop(cred (tallyAt (barCell c) () 7) ∗ due 1 c ∗ due 3 c) := by
  have h : (Pipeline.launchCred O₀ c : sProp 𝕄) ⊢ bigSep Finset.univ fun x => atLaunch (kcell (c, x)) := by
    refine (bigSep_subset (Finset.subset_univ (Finset.univ.map ⟨csem, csem_injective⟩))).trans ?_
    rw [bigSep_map]; exact BI.Entails.refl _
  refine h.trans ?_
  rw [byKind_one, atLaunch_of (owed_bar c), bigSep_congr fun j _ => atLaunch_of (owed_recv j c), bigSep_congr fun j _ => atLaunch_of (owed_recvMax j c)]
  unfold due
  iintro ⟨HB, -, H1, -, H3⟩
  isplitl [HB]; · iexact HB
  isplitl [H1] <;> iassumption

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ settled m ρ c)
      ⊢ |={Set.univ}=> iprop(start m ρ c ∗ emp) := by
  iintro ⟨-, #Hlev, Hcr, -, HG⟩
  ihave Hc := (creds (F := F) c) $$ Hcr
  imodintro
  unfold start settled shared
  isplitl
  · icases HG with ⟨%K, #⟨HI, HR⟩, Hrest⟩
    isplitr [Hc]
    · iexists K
      isplitr [Hrest]
      · unfold know
        isplitr; · iexact HI
        isplitr; · iexact HR
        iexact Hlev
      iexact Hrest
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch someOf
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  refine .trans ?_ Laws.sep_assoc.mp
  rw [sems0_eq, byKind_one]
  unfold Φ₁ scratch someOf zeros
  iintro ⟨Hr, Hz⟩
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- What array `w` of device `c` holds at the end. -/
def finalA (c : Dev nD) (w : Fin cfg0.W) : Buf (Elt F) ((cfg0.win w).arr.view.loc (c : Thread nD τ)) := (dats m ρ 0 c).arrAt w cfg0.N

/-- A final state with those contents. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, every fair execution of the eight devices ends, with every array at the
    contents `finalA` and every semaphore back at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := settled m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold at the end what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdealProof

end
-- ==== Proof.Quantise.lean ====
/-
Quantising one value over the extended reals.

The scale is the largest absolute value divided by 448. The reference divides a value by it, clips the quotient to
±448 and multiplies by the scale again; the kernel does the same without the clipping. A value that is no larger
than the largest absolute value gives the same either way: the quotient of a finite positive scale is within ±448;
a scale of zero has only zeros to quantise, and the product with zero is zero whatever was clipped; an infinite
scale makes every quotient zero.
-/
module

public import Idealize.ShloMosaic.PureOps.Ideal.Laws
public import Idealize.ShloMosaic.Lib.IdealHost

@[expose] public section

noncomputable section

namespace Cert.Quant

open Idealize.ShloMosaic

/-- The word of 448. -/
theorem word_top : Ideal.ofBits .f32 0x43E00000#32 = ((448 : ℝ) : EReal) := by
  simp [Ideal.ofBits, Ideal.ieee, -EReal.coe_mul]; norm_num
/-- The word of −448. -/
theorem word_bot : Ideal.ofBits .f32 0xC3E00000#32 = ((-448 : ℝ) : EReal) := by
  simp [Ideal.ofBits, Ideal.ieee, -EReal.coe_mul, -EReal.coe_neg]; norm_num
/-- The word a largest value starts from is −∞. -/
theorem word_neg_inf : Ideal.ofBits .f32 0xFF800000#32 = ⊥ := by simp [Ideal.ofBits, Ideal.ieee]

/-- The absolute value. -/
def mag (y : EReal) : EReal := max y (-y)

/-- An absolute value is not negative. -/
theorem mag_nonneg (y : EReal) : 0 ≤ mag y := by
  rcases le_total 0 y with h | h
  · exact h.trans (le_max_left _ _)
  · exact (EReal.neg_nonneg.mpr h).trans (le_max_right _ _)

/-- The quotient of two real numbers is a real number. -/
theorem div_real (y s : ℝ) (hs : s ≠ 0) : Ideal.div (y : EReal) (s : EReal) = ((y / s : ℝ) : EReal) := by
  unfold Ideal.div
  rw [if_neg (by exact_mod_cast hs), ← EReal.coe_inv, ← EReal.coe_mul, div_eq_mul_inv]

/-- THE QUANTISER: a value no larger than `a`, divided by `a / 448` and multiplied by it again, is the same with the
    quotient clipped to ±448 as without. -/
theorem clip_eq (y a : EReal) (h : mag y ≤ a) :
    min ((448 : ℝ) : EReal) (max ((-448 : ℝ) : EReal) (Ideal.div y (Ideal.div a ((448 : ℝ) : EReal)))) * Ideal.div a ((448 : ℝ) : EReal)
      = Ideal.div y (Ideal.div a ((448 : ℝ) : EReal)) * Ideal.div a ((448 : ℝ) : EReal) := by
  have h1 : y ≤ a := (le_max_left _ _).trans h
  have h2 : -y ≤ a := (le_max_right _ _).trans h
  have h0 : 0 ≤ a := (mag_nonneg y).trans h
  induction a using EReal.rec with
  | bot => exact absurd h0 (by simp)
  | top =>
    have hs : Ideal.div ⊤ ((448 : ℝ) : EReal) = ⊤ := by
      unfold Ideal.div
      rw [if_neg (by exact_mod_cast (by norm_num : (448 : ℝ) ≠ 0)), ← EReal.coe_inv, EReal.top_mul_coe_of_pos (by norm_num)]
    have hd : Ideal.div y ⊤ = 0 := by unfold Ideal.div; rw [if_neg (by simp), EReal.inv_top, mul_zero]
    rw [hs, hd]
    congr 1
    rw [max_eq_right (by exact_mod_cast (by norm_num : (-448 : ℝ) ≤ 0)), min_eq_right (by exact_mod_cast (by norm_num : (0 : ℝ) ≤ 448))]
  | coe r =>
    rw [div_real r 448 (by norm_num)]
    have hr : 0 ≤ r := by exact_mod_cast h0
    rcases hr.eq_or_lt with rfl | hr
    · simp
    · induction y using EReal.rec with
      | bot => exact absurd h2 (by simp)
      | top => exact absurd h1 (by simp)
      | coe z =>
        have hz1 : z ≤ r := by exact_mod_cast h1
        have hz2 : -z ≤ r := by exact_mod_cast h2
        have hp : (0 : ℝ) < r / 448 := by positivity
        rw [div_real z _ hp.ne']
        congr 1
        rw [max_eq_right, min_eq_right]
        · exact_mod_cast (div_le_iff₀ hp).mpr (by linarith)
        · exact EReal.coe_le_coe_iff.mpr ((le_div_iff₀ hp).mpr (by linarith))

/-! ## Largest values

Two largest values are equal when the same bounds hold for them; so each is known by its bounds. -/

/-- A vector's largest value, reduced to a single entry, is below a bound exactly when every entry is. -/
theorem reduced_le {s t : Shape} {axes : List (Fin s.rank)} (v : FVec Ideal s .f32) (h : s.Reduces axes t)
    (hφ : FKind.Formats .f32) (hacc : (0xFF800000#32 : BitVec FTy.f32.bits) = FKind.maximumf.neutral .f32 hφ) (j : t.Idx)
    (ht : ∀ b, t.size b = 1) (B : EReal) :
    (multiReduction .maximumf axes t v 0xFF800000#32 h hφ hacc j : EReal) ≤ B ↔ ∀ i, (v i : EReal) ≤ B := by
  rw [multiReduction_maximumf_eq_fold]
  have hb : (FloatOps.ofBits .f32 0xFF800000#32 : Ideal .f32) = (⊥ : EReal) := word_neg_inf
  rw [hb]
  refine (Finset.fold_max_le (β := EReal) B).trans ?_
  have hall : ∀ i, h.drop i = j := fun i => funext fun b => Fin.ext (by
    have := (h.drop i b).isLt; have := (j b).isLt; have := ht b; omega)
  simp [hall]

/-- The same of a whole array reduced on the host to a scalar. -/
theorem host_reduced_le {s u : Shape} {axes : List (Fin s.rank)} {t : Shape} (v : FVec Ideal s .f32) (init : FVec Ideal u .f32)
    (h : s.ReducesTo axes t) (hu : 0 < u.numel) (j : t.Idx) (ht : t.rank = 0) (hinit : ∀ i, (init i : EReal) = ⊥) (B : EReal) :
    (Host.reduce (FloatOps.maximumf (F := Ideal) (φ := .f32)) v init h hu j : EReal) ≤ B ↔ ∀ i, (v i : EReal) ≤ B := by
  rw [Host.reduce_eq_fold, hinit]
  refine (Finset.fold_max_le (β := EReal) B).trans ?_
  have hall : ∀ i, h.drop i = j := fun i => funext fun b => absurd b.isLt (by omega)
  simp [hall]

end Cert.Quant

end
-- ==== Proof.KernelIdealValue.lean ====
/-
What each device's result holds, over the extended reals.

The product that device `s` computes for device `t` is rows `512 s …` and columns `256 t …` of the product of the two
whole arrays. The largest value of a device bounds its eight products; the largest value of the scale bounds all
sixty-four, and so every entry of the whole product. Each entry of the result is an entry of the product, divided by
the scale and multiplied by it again.
-/
module

public import proofs.«01_k».proof.Proof.KernelIdealRun
public import proofs.«01_k».proof.Proof.Quantise
public import Idealize.ShloMosaic.Lib.MatmulPlain
public import Idealize.ShloMosaic.Lib.Pipeline.Value
public import Idealize.ShloMosaic.Lib.ValueIdx

@[expose] public section

noncomputable section

namespace Cert.KernelIdealProof

open Cert.KernelIdeal Cert.KernelIdeal.Gen Cert.Quant
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-! ## The arrays as the kernel sees them -/

/-- The staged rows of `x` are the array's, -/
theorem xs_apply (c : Dev nD) (i : S512x4096.Idx) : xs m ρ c i = m ((c : Thread nD τ).loc main_arg0) i := by
  show m ((c : Thread nD τ).loc main_arg0) ((win0_0.blk (0 : Fin 1)).view.emb i) = _
  exact congrArg _ (funext fun a => Fin.ext (by
    match a with
    | ⟨0, _⟩ => show 0 * 512 + 1 * (i 0).val = (i 0).val; omega
    | ⟨1, _⟩ => show 0 * 4096 + 1 * (i 1).val = (i 1).val; omega))
/-- and the staged `w` is the array. -/
theorem ws_apply (c : Dev nD) (i : S4096x2048.Idx) : ws m ρ c i = m ((c : Thread nD τ).loc main_arg1) i := by
  show m ((c : Thread nD τ).loc main_arg1) ((win0_1.blk (0 : Fin 1)).view.emb i) = _
  exact congrArg _ (funext fun a => Fin.ext (by
    match a with
    | ⟨0, _⟩ => show 0 * 4096 + 1 * (i 0).val = (i 0).val; omega
    | ⟨1, _⟩ => show 0 * 2048 + 1 * (i 1).val = (i 1).val; omega))

/-- The result array ends as the body left it. -/
theorem finalA_out (c : Dev nD) : finalA m ρ c (2 : Fin 3) = outV m ρ c := by
  have one : ∀ t t' : Fin cfg0.N, t = t' := (by decide +kernel : ∀ t t' : Fin grid0.N, t = t')
  have h := (dats m ρ 0 c).read_blk_arrAt_eq_flushed (2 : Fin 3) (fun t t' _ _ hne => absurd (one t t') hne) cfg0.N t₀ t₀.isLt (flush0_2 t₀)
  funext i
  have hi := congrFun h i
  refine Eq.trans ?_ (hi.trans rfl)
  show finalA m ρ c (2 : Fin 3) i = finalA m ρ c (2 : Fin 3) ((win0_2.blk (0 : Fin 1)).view.emb i)
  exact (congrArg _ (funext fun a => Fin.ext (by
    match a with
    | ⟨0, _⟩ => show 0 * 4096 + 1 * (i 0).val = (i 0).val; omega
    | ⟨1, _⟩ => show 0 * 256 + 1 * (i 1).val = (i 1).val; omega))).symm

/-! ## One product -/

/-- An entry of a device's product is the sum over the contracted axis. -/
theorem product_apply (x : Vec Ideal S512x4096 .f32) (w : Vec Ideal S4096x256 .f32) (r : Fin 512) (q : Fin 256) :
    (k0_pay5 (k0_pay1 x) w (ix2 r q) : EReal) = ∑ k : Fin 4096, (x (ix2 r k) : EReal) * w (ix2 k q) := by
  refine (Ideal.matmul_plain_apply (M := 512) (K := 4096) (N := 256) none (k0_pay1 x)
    (truncf .bf16 (shapeCast S4096x256 w shapeCasts_S4096x256_S4096x256) bitsLt_bf16_f32) (constant S512x256 .f32 0x00000000#32) r q).trans ?_
  have h0 : (constant (F := Ideal) S512x256 .f32 0x00000000#32 (ix2 r q) : EReal) = 0 := Ideal.ofBits_zero_f32
  rw [h0, zero_add]
  refine Finset.sum_congr rfl fun k _ => ?_
  have e1 : (k0_pay1 x (ix2 r k) : EReal) = x (ix2 r k) := shapeCast_apply x shapeCasts_S512x4096_S512x4096 (ix2 r k) (ix2 r k) rfl
  have e2 : truncf (F := Ideal) (φ := .f32) .bf16 (shapeCast S4096x256 w shapeCasts_S4096x256_S4096x256) bitsLt_bf16_f32 (ix2 k q) = w (ix2 k q) :=
    shapeCast_apply w shapeCasts_S4096x256_S4096x256 (ix2 k q) (ix2 k q) rfl
  rw [e1, e2]

/-- The stored product is the product. -/
theorem prodV_apply (c t : Dev nD) (r : Fin 512) (q : Fin 256) :
    prod m ρ c t (ix2 r q) = k0_pay5 (k0_pay1 (xs m ρ c)) (colsOf (ws m ρ c) t) (ix2 r q) := by
  unfold prod prodV k0_pay7
  rw [shapeCast_apply _ _ (ix2 r q) (ix3 (0 : Fin 1) r q) (by
    rw [Shape.rowMajor_val_three, Shape.rowMajor_val_two]
    show (0 * 512 + r.val) * 256 + q.val = r.val * 256 + q.val; omega)]
  exact shapeCast_apply _ _ (ix3 (0 : Fin 1) r q) (ix2 r q) (by
    rw [Shape.rowMajor_val_three, Shape.rowMajor_val_two]
    show r.val * 256 + q.val = (0 * 512 + r.val) * 256 + q.val; omega)

/-! ## Largest values -/

/-- The larger of two is below a bound exactly when both are. -/
theorem larger_le (a b B : EReal) : (Scalar.maximumf (F := Ideal) (φ := .f32) a b : EReal) ≤ B ↔ a ≤ B ∧ b ≤ B := max_le_iff

/-- The largest entry of a vector, taken out as a scalar, is below a bound exactly when every entry is. -/
theorem extracted_le {s : Shape} {axes : List (Fin s.rank)} (v : FVec Ideal s .f32) (h : s.Reduces axes S1) (hφ : FKind.Formats .f32)
    (hacc : (0xFF800000#32 : BitVec FTy.f32.bits) = FKind.maximumf.neutral .f32 hφ) (B : EReal) :
    (extractAt ![0, 0, 0] (shapeCast S1x1x1 (multiReduction .maximumf axes S1 v 0xFF800000#32 h hφ hacc) shapeCasts_S1_S1x1x1)
      inpos_S1x1x1_p0_0_0 : EReal) ≤ B ↔ ∀ i, (v i : EReal) ≤ B :=
  reduced_le v h hφ hacc _ (fun b => by match b with | ⟨0, _⟩ => rfl) B

/-- The largest value after one more product, as the larger of the two. -/
theorem bigger_eq (x : FVec Ideal S512x4096 .bf16) (a : EReal) (w : Vec Ideal S4096x256 .f32) :
    k0_pay6 (F := Ideal) x a w = Scalar.maximumf (F := Ideal) (φ := .f32) a
      (extractAt ![0, 0, 0] (shapeCast S1x1x1 (multiReduction .maximumf [1, 2] S1
        (shapeCast S1x512x256 (absf (k0_pay5 (F := Ideal) x w)) shapeCasts_S512x256_S1x512x256)
        0xFF800000#32 reduces_S1x512x256_S1 (.inl rfl) rfl) shapeCasts_S1_S1x1x1) inpos_S1x1x1_p0_0_0) := by
  unfold k0_pay6; rfl

/-- The largest value after one more product is below a bound exactly when the one before and all the entries are. -/
theorem bigger_le (x : Vec Ideal S512x4096 .f32) (a : EReal) (w : Vec Ideal S4096x256 .f32) (B : EReal) :
    (k0_pay6 (F := Ideal) (k0_pay1 x) a w : EReal) ≤ B ↔ a ≤ B ∧ ∀ (r : Fin 512) (q : Fin 256), mag (k0_pay5 (k0_pay1 x) w (ix2 r q)) ≤ B := by
  rw [bigger_eq]
  refine (larger_le _ _ B).trans (and_congr Iff.rfl ?_)
  refine (extracted_le (shapeCast S1x512x256 (absf (k0_pay5 (F := Ideal) (k0_pay1 x) w)) shapeCasts_S512x256_S1x512x256)
    reduces_S1x512x256_S1 (.inl rfl) rfl B).trans ?_
  have hc : ∀ (r : Fin 512) (q : Fin 256),
      (shapeCast S1x512x256 (absf (k0_pay5 (F := Ideal) (k0_pay1 x) w)) shapeCasts_S512x256_S1x512x256 (ix3 (0 : Fin 1) r q) : EReal)
        = mag (k0_pay5 (k0_pay1 x) w (ix2 r q)) := fun r q =>
    shapeCast_apply _ _ (ix3 (0 : Fin 1) r q) (ix2 r q) (by
      rw [Shape.rowMajor_val_three, Shape.rowMajor_val_two]
      show r.val * 256 + q.val = (0 * 512 + r.val) * 256 + q.val; omega)
  constructor
  · intro h r q
    rw [← hc r q]; exact h _
  · intro h i
    obtain ⟨z, r, q, rfl⟩ : ∃ (z : Fin 1) (r : Fin 512) (q : Fin 256), i = ix3 z r q := ⟨i 0, i 1, i 2, eq_ix3 i⟩
    obtain rfl : z = 0 := Subsingleton.elim _ _
    rw [hc r q]; exact h r q

/-- Every entry of the product of device `c` for device `t` is within `B`. -/
def Within (c t : Dev nD) (B : EReal) : Prop := ∀ (r : Fin 512) (q : Fin 256), mag (prod m ρ c t (ix2 r q)) ≤ B

theorem within_iff (c t : Dev nD) (B : EReal) :
    (∀ (r : Fin 512) (q : Fin 256), mag (k0_pay5 (k0_pay1 (xs m ρ c)) (colsOf (ws m ρ c) t) (ix2 r q)) ≤ B) ↔ Within m ρ c t B :=
  forall_congr' fun r => forall_congr' fun q => by rw [prodV_apply]

/-- The largest value after `n` products bounds those. -/
theorem runMax_le (c : Dev nD) (B : EReal) : ∀ n : ℕ, n ≤ 7 →
    ((runMax m ρ c n : EReal) ≤ B ↔ 0 ≤ B ∧ ∀ j : Fin 7, j.val < n → Within m ρ c (peer c j) B)
  | 0, _ => by
    have h0 : (runMax m ρ c 0 : EReal) = 0 := Ideal.ofBits_zero_f32
    rw [h0]
    exact ⟨fun h => ⟨h, fun j hj => absurd hj (Nat.not_lt_zero _)⟩, And.left⟩
  | n + 1, hn => by
    have hlt : n < 7 := by omega
    rw [show runMax m ρ c (n + 1) = k0_pay6 (k0_pay1 (xs m ρ c)) (runMax m ρ c n) (colsOf (ws m ρ c) (peer c ⟨n, hlt⟩)) from dif_pos hlt,
      bigger_le, within_iff, runMax_le c B n (by omega)]
    constructor
    · rintro ⟨⟨h0, h⟩, hw⟩
      refine ⟨h0, fun j hj => ?_⟩
      rcases Nat.lt_succ_iff_lt_or_eq.mp hj with h' | h'
      · exact h j h'
      · have e : j = ⟨n, hlt⟩ := Fin.ext h'
        rw [e]; exact hw
    · rintro ⟨h0, h⟩
      exact ⟨⟨h0, fun j hj => h j (by omega)⟩, h ⟨n, hlt⟩ (Nat.lt_succ_self n)⟩

/-- Every device but this one is some number of places on. -/
theorem exists_peer (c t : Dev nD) (h : t ≠ c) : ∃ j : Fin 7, peer c j = t := by revert c t; decide

/-- A device's own largest value bounds its eight products. -/
theorem ownMax_le (c : Dev nD) (B : EReal) : (ownMax m ρ c : EReal) ≤ B ↔ 0 ≤ B ∧ ∀ t : Dev nD, Within m ρ c t B := by
  unfold ownMax
  rw [bigger_le, within_iff, runMax_le m ρ c B 7 le_rfl]
  constructor
  · rintro ⟨⟨h0, h⟩, hw⟩
    refine ⟨h0, fun t => ?_⟩
    by_cases e : t = c
    · rw [e]; exact hw
    · obtain ⟨j, rfl⟩ := exists_peer c t e
      exact h j j.isLt
  · rintro ⟨h0, h⟩
    exact ⟨⟨h0, fun j _ => h _⟩, h c⟩

/-- The largest value of all devices, as device `c` finds it. -/
def allMax (c : Dev nD) : EReal :=
  Scalar.maximumf (F := Ideal) (φ := .f32) (ownMax m ρ c)
    (extractAt ![0, 0, 0] (shapeCast S1x1x1 (multiReduction .maximumf [1, 2] S1 (shapeCast S1x7x128 (maxV m ρ c) shapeCasts_S7x128_S1x7x128)
      0xFF800000#32 reduces_S1x7x128_S1 (.inl rfl) rfl) shapeCasts_S1_S1x1x1) inpos_S1x1x1_p0_0_0)

/-- The scale is that largest value over 448. -/
theorem scaleV_eq (c : Dev nD) : (scaleV m ρ c : EReal) = Ideal.div (allMax m ρ c) ((448 : ℝ) : EReal) := by
  rw [← word_top]; unfold scaleV allMax k0_pay27; rfl

/-- The largest value of all bounds every product of every device. -/
theorem allMax_le (c : Dev nD) (B : EReal) : allMax m ρ c ≤ B ↔ 0 ≤ B ∧ ∀ s t : Dev nD, Within m ρ s t B := by
  have hrow : ∀ (j : Fin 7) (l : Fin 128),
      (shapeCast S1x7x128 (maxV m ρ c) shapeCasts_S7x128_S1x7x128 (ix3 (0 : Fin 1) j l) : EReal) = ownMax m ρ (peer c j.rev) := fun j l =>
    shapeCast_apply (maxV m ρ c) _ (ix3 (0 : Fin 1) j l) (ix2 j l) (by
      rw [Shape.rowMajor_val_three, Shape.rowMajor_val_two]
      show j.val * 128 + l.val = (0 * 7 + j.val) * 128 + l.val; omega)
  unfold allMax
  refine (larger_le _ _ B).trans ?_
  refine Iff.trans (and_congr Iff.rfl (extracted_le (shapeCast S1x7x128 (maxV m ρ c) shapeCasts_S7x128_S1x7x128)
    reduces_S1x7x128_S1 (.inl rfl) rfl B)) ?_
  constructor
  · rintro ⟨h, hr⟩
    refine ⟨((ownMax_le m ρ c B).mp h).1, fun s => ?_⟩
    by_cases e : s = c
    · rw [e]; exact ((ownMax_le m ρ c B).mp h).2
    · obtain ⟨j, rfl⟩ := exists_peer c s e
      have := hr (ix3 (0 : Fin 1) j.rev (0 : Fin 128))
      rw [hrow, Fin.rev_rev] at this
      exact ((ownMax_le m ρ _ B).mp this).2
  · rintro ⟨h0, h⟩
    refine ⟨(ownMax_le m ρ c B).mpr ⟨h0, h c⟩, fun i => ?_⟩
    obtain ⟨z, j, l, rfl⟩ : ∃ (z : Fin 1) (j : Fin 7) (l : Fin 128), i = ix3 z j l := ⟨i 0, i 1, i 2, eq_ix3 i⟩
    obtain rfl : z = 0 := Subsingleton.elim _ _
    rw [hrow]
    exact (ownMax_le m ρ _ B).mpr ⟨h0, h _⟩

/-! ## The result -/

/-- Which device's rows a row of the result belongs to, and which row of them it is. -/
def rowDev (r : Fin 4096) : Dev nD := ⟨r.val / 512, by have := r.isLt; show _ < 8; omega⟩
def rowIn (r : Fin 4096) : Fin 512 := ⟨r.val % 512, Nat.mod_lt _ (by decide)⟩

/-- An entry of the result: the entry of the product, divided by the scale and multiplied by it. -/
theorem outV_apply (c : Dev nD) (r : Fin 4096) (q : Fin 256) :
    (outV m ρ c (ix2 r q) : EReal) = Ideal.div (prod m ρ (rowDev r) c (ix2 (rowIn r) q)) (scaleV m ρ c) * scaleV m ρ c := by
  have e : outV m ρ c (ix2 r q) = k0_pay31 (scaleV m ρ c) (prodV m ρ (rowDev r) c) (ix2 (rowIn r) q) := by
    unfold outV
    refine congrArg (k0_pay31 (scaleV m ρ c) (prodV m ρ (rowDev r) c)) (funext fun a => ?_)
    match a with | ⟨0, _⟩ => rfl | ⟨1, _⟩ => rfl
  rw [e]
  unfold k0_pay31 prod
  rfl

end Cert.KernelIdealProof

end
-- ==== Proof.ReferenceIdealValue.lean ====
/-
What the reference computes, over the extended reals.

Each entry of the result is the entry of the product of the two arrays, divided by the scale, clipped to ±448 and
multiplied by the scale again; the scale is the largest absolute value of the product over 448.
-/
module

public import proofs.«01_k».proof.Proof.Gen.ReferenceIdeal.Value
public import proofs.«01_k».proof.Proof.Quantise
public import Idealize.ShloMosaic.Lib.StackMember
public import Idealize.ShloMosaic.Lib.ValueIdx
public import Idealize.ShloMosaic.Lib.Claim

@[expose] public section

noncomputable section

namespace Cert.ReferenceIdealProof

open Cert.ReferenceIdeal Cert.ReferenceIdeal.Gen Cert.ReferenceIdeal.Value Cert.Quant
open Idealize.ShloMosaic Idealize.ShloMosaic.TcCoe Idealize.ShloMosaic.ValueIdx Idealize.ShloMosaic.StackMember
open Idealize.SL Idealize.SL.Sem
open scoped BigOperators

variable (m : (ℓ : Loc nD τ sig) → Buf (Elt Ideal) ℓ)

/-- The arrays `x` and `w`. -/
abbrev xA : Vec Ideal S4096x4096 .f32 := m (((0 : Dev nD) : Thread nD τ).loc main_arg0)
abbrev wA : Vec Ideal S4096x2048 .f32 := m (((0 : Dev nD) : Thread nD τ).loc main_arg1)

/-- Their product, -/
def yA : FVec Ideal S4096x2048 .f32 := Host.dotGeneral (φ₁ := .f32) (φ₂ := .f32) dot_S4096x4096_S4096x2048_S4096x2048_1_0_0_1_n_n none (xA m) (wA m)
/-- its largest absolute value, -/
def amax : FVec Ideal S_ .f32 :=
  Host.reduce FloatOps.maximumf (Host.absf (yA m)) (constant (F := Ideal) S_ .f32 0xFF800000#32) reducesTo_S4096x2048_S_d0_1 h_S_
/-- and the scale. -/
def scale : FVec Ideal S1x1 .f32 := shapeCast S1x1 (Host.divf (amax m) (constant (F := Ideal) S_ .f32 0x43E00000#32)) shapeCasts_S_S1x1

/-- What the host computes before the call is that product -/
theorem V_y : V m 0 main_v0 = yA m := by
  unfold_abbrev_sides
  after_results
  rfl
/-- and that scale. -/
theorem V_scale : V m 0 main_v4 = scale m := by
  unfold_abbrev_sides
  after_results
  rfl

/-- An entry of the product is the sum over the contracted axis. -/
theorem yA_apply (r : Fin 4096) (q : Fin 2048) :
    (yA m (ix2 r q) : EReal) = ∑ k : Fin 4096, (xA m (ix2 r k) : EReal) * wA m (ix2 k q) :=
  dotGeneral_plain_apply (φ₁ := .f32) (φ₂ := .f32) (m := 4096) (k := 4096) (n := 2048) none (xA m) (wA m) r q

/-- The largest absolute value is below a bound exactly when every entry's is. -/
theorem amax_le (B : EReal) : (amax m ix0 : EReal) ≤ B ↔ ∀ (r : Fin 4096) (q : Fin 2048), mag (yA m (ix2 r q)) ≤ B := by
  unfold amax
  refine (host_reduced_le (Host.absf (yA m)) (constant (F := Ideal) S_ .f32 0xFF800000#32) reducesTo_S4096x2048_S_d0_1 h_S_ ix0 rfl
    (fun _ => word_neg_inf) B).trans ?_
  constructor
  · exact fun h r q => h (ix2 r q)
  · intro h i
    rw [eq_ix2 i]; exact h (i 0) (i 1)

/-- The scale is the largest absolute value over 448. -/
theorem scale_apply (i : S1x1.Idx) : (scale m i : EReal) = Ideal.div (amax m ix0) ((448 : ℝ) : EReal) := by
  rw [← word_top]
  exact shapeCast_apply (Host.divf (amax m) (constant (F := Ideal) S_ .f32 0x43E00000#32)) shapeCasts_S_S1x1 i ix0 (by
    have h0 := (S_.rowMajor ix0).isLt; have h1 := (S1x1.rowMajor i).isLt
    have e0 : S_.numel = 1 := by decide
    have e1 : S1x1.numel = 1 := by decide
    omega)

/-- The blocks that the call works on are the whole arrays. -/
theorem iblk_y (i : S4096x2048.Idx) : iblk m 0 0 t0_0 i = yA m i := by
  rw [← V_y]
  show V m 0 main_v0 ((win0_0.blk (0 : Fin 1)).view.emb i) = _
  exact congrArg _ (funext fun a => Fin.ext (by
    match a with
    | ⟨0, _⟩ => show 0 * 4096 + 1 * (i 0).val = (i 0).val; omega
    | ⟨1, _⟩ => show 0 * 2048 + 1 * (i 1).val = (i 1).val; omega))
theorem iblk_scale (i : S1x1.Idx) : (iblk m 0 1 t0_0 i : EReal) = Ideal.div (amax m ix0) ((448 : ℝ) : EReal) := by
  rw [← scale_apply m ((win0_1.blk (0 : Fin 1)).view.emb i), ← V_scale]
  rfl

/-- The result array. -/
def outA : Vec Ideal S4096x2048 .f32 := (dats m 0 0).arrAt 2 cfg0.N

/-- An entry of the result: the entry of the product, divided by the scale, clipped to ±448, times the scale. -/
theorem outA_apply (r : Fin 4096) (q : Fin 2048) :
    (outA m (ix2 r q) : EReal)
      = min ((448 : ℝ) : EReal) (max ((-448 : ℝ) : EReal) (Ideal.div (yA m (ix2 r q)) (Ideal.div (amax m ix0) ((448 : ℝ) : EReal))))
        * Ideal.div (amax m ix0) ((448 : ℝ) : EReal) := by
  have h := congrFun ((blocks2 m 0 t0_0 (flush0_2 t0_0)).trans (flushed2 m 0 t0_0)) (ix2 r q)
  have e : outA m (ix2 r q) = out0_2 (iblk m 0 0 t0_0) (iblk m 0 1 t0_0) (ix2 r q) := by
    refine Eq.trans ?_ (h.trans rfl)
    show outA m (ix2 r q) = outA m ((win0_2.blk (0 : Fin 1)).view.emb (ix2 r q))
    exact (congrArg _ (funext fun a => Fin.ext (by
      match a with
      | ⟨0, _⟩ => show 0 * 4096 + 1 * r.val = r.val; omega
      | ⟨1, _⟩ => show 0 * 2048 + 1 * q.val = q.val; omega))).symm
  rw [e]
  unfold out0_2
  have hz : (![0, 0] : Fin 2 → Nat) = fun _ => 0 := by decide
  rw [canon2_eq, View.ld_unit_zero hz, View.ld_unit_zero hz]
  have ei : ix2_0 (ix2 r q) = ix2 r q := by
    funext a; match a with | ⟨0, _⟩ => rfl | ⟨1, _⟩ => rfl
  unfold E2
  rw [ei, iblk_y]
  show min (Ideal.ofBits .f32 0x43E00000#32) (max (Ideal.ofBits .f32 0xC3E00000#32) (Ideal.div (yA m (ix2 r q)) (iblk m 0 1 t0_0 (ix2_1 (ix2 r q)))))
    * (iblk m 0 1 t0_0 (ix2_2 (ix2 r q)) : EReal) = _
  rw [iblk_scale, word_top, word_bot]

end Cert.ReferenceIdealProof

end
-- ==== Proof.Equation.lean ====
/-
The equation: each device's result is its block of the reference's.

The sixty-four products are the blocks of the one product of the whole arrays, so the largest values agree: a bound on
all the entries of the one is a bound on all the entries of the other. With equal scales each entry differs by the
clipping alone, which changes nothing (`clip_eq`).
-/
module

public import proofs.«01_k».proof.Proof.KernelIdealValue
public import proofs.«01_k».proof.Proof.ReferenceIdealValue
public import Idealize.ShloMosaic.Lib.Layout

@[expose] public section

noncomputable section

namespace Cert.Equation

open Cert.Quant Cert.KernelIdealProof Cert.ReferenceIdealProof
open Idealize.ShloMosaic Idealize.ShloMosaic.TcCoe Idealize.ShloMosaic.ValueIdx
open Idealize.SL Idealize.SL.Sem
open scoped BigOperators

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The devices' arguments are their parts of the reference's. -/
def Parts : Prop := ∀ c : Dev Cert.KernelIdeal.nD,
  m ((c.tc : Thread Cert.KernelIdeal.nD Cert.KernelIdeal.τ).loc Cert.KernelIdeal.main_arg0)
      = Layout.block ⟨2, ![512, 4096]⟩ ⟨2, ![4096, 4096]⟩ 0 8 c (xA m')
    ∧ m ((c.tc : Thread Cert.KernelIdeal.nD Cert.KernelIdeal.τ).loc Cert.KernelIdeal.main_arg1) = wA m'

/-- Row `r` of the rows of device `s`, in the whole array, -/
def rowOf (s : Dev Cert.KernelIdeal.nD) (r : Fin 512) : Fin 4096 :=
  ⟨s.val * 512 + r.val, by have h : s.val < 8 := s.isLt; have := r.isLt; omega⟩
/-- and column `q` of the columns of device `t`. -/
def colOf (t : Dev Cert.KernelIdeal.nD) (q : Fin 256) : Fin 2048 :=
  ⟨t.val * 256 + q.val, by have h : t.val < 8 := t.isLt; have := q.isLt; omega⟩

variable {m m'}

/-- The product of device `s` for device `t` is that block of the product of the whole arrays. -/
theorem prod_eq (h : Parts m m') (s t : Dev Cert.KernelIdeal.nD) (r : Fin 512) (q : Fin 256) :
    prod m ρ s t (ix2 r q) = yA m' (ix2 (rowOf s r) (colOf t q)) := by
  rw [prodV_apply, yA_apply]
  refine (product_apply (xs m ρ s) (colsOf (ws m ρ s) t) r q).trans (Finset.sum_congr rfl fun k _ => ?_)
  have hx : xs m ρ s (ix2 r k) = xA m' (ix2 (rowOf s r) k) := by
    rw [xs_apply, (h s).1, Layout.block_apply]
    exact congrArg _ (funext fun a => Fin.ext (by match a with | ⟨0, _⟩ => rfl | ⟨1, _⟩ => rfl))
  have hw : colsOf (ws m ρ s) t (ix2 k q) = wA m' (ix2 k (colOf t q)) := by
    unfold colsOf
    rw [ws_apply, (h s).2]
    exact congrArg _ (funext fun a => Fin.ext (by
      match a with
      | ⟨0, _⟩ => rfl
      | ⟨1, _⟩ => show 256 * t.val + q.val = t.val * 256 + q.val; omega))
  rw [hx, hw]

/-- The devices' largest value is the reference's. -/
theorem max_eq (h : Parts m m') (c : Dev Cert.KernelIdeal.nD) : allMax m ρ c = amax m' ix0 := by
  refine eq_of_forall_ge_iff fun B => ?_
  rw [allMax_le, amax_le]
  constructor
  · rintro ⟨-, hB⟩ r q
    have hr := r.isLt
    have hq := q.isLt
    have := hB (⟨r.val / 512, by show _ < 8; omega⟩ : Dev Cert.KernelIdeal.nD) (⟨q.val / 256, by show _ < 8; omega⟩ : Dev Cert.KernelIdeal.nD)
      ⟨r.val % 512, Nat.mod_lt _ (by decide)⟩ ⟨q.val % 256, Nat.mod_lt _ (by decide)⟩
    rw [prod_eq ρ h] at this
    have er : rowOf (⟨r.val / 512, by show _ < 8; omega⟩ : Dev Cert.KernelIdeal.nD) ⟨r.val % 512, Nat.mod_lt _ (by decide)⟩ = r :=
      Fin.ext (by show r.val / 512 * 512 + r.val % 512 = r.val; omega)
    have eq : colOf (⟨q.val / 256, by show _ < 8; omega⟩ : Dev Cert.KernelIdeal.nD) ⟨q.val % 256, Nat.mod_lt _ (by decide)⟩ = q :=
      Fin.ext (by show q.val / 256 * 256 + q.val % 256 = q.val; omega)
    rwa [er, eq] at this
  · intro hB
    exact ⟨(mag_nonneg _).trans (hB 0 0), fun s t r q => by rw [prod_eq ρ h]; exact hB _ _⟩

/-- THE EQUATION: a device's result is its block of columns of the reference's result. -/
theorem out_eq (h : Parts m m') (c : Dev Cert.KernelIdeal.nD) :
    outV m ρ c = Layout.block ⟨2, ![4096, 256]⟩ ⟨2, ![4096, 2048]⟩ 1 8 c (outA m') := by
  funext i
  obtain ⟨r, q, rfl⟩ : ∃ (r : Fin 4096) (q : Fin 256), i = ix2 r q := ⟨i 0, i 1, eq_ix2 i⟩
  rw [outV_apply, scaleV_eq, max_eq ρ h, prod_eq ρ h, Layout.block_apply]
  have er : rowOf (rowDev r) (rowIn r) = r := Fin.ext (by show r.val / 512 * 512 + r.val % 512 = r.val; omega)
  rw [er]
  refine (clip_eq _ _ ((amax_le m' _).mp le_rfl r (colOf c q))).symm.trans ((outA_apply m' r (colOf c q)).symm.trans ?_)
  exact congrArg (outA m') (funext fun a => Fin.ext (by match a with | ⟨0, _⟩ => rfl | ⟨1, _⟩ => rfl))

end Cert.Equation

end
-- ==== Proof.lean ====
/-
The certificate: the kernel, its ideal program and the reference each end with their arguments unchanged and every
semaphore at zero, and over the extended reals each device's result is its block of columns of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.KernelRun
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem

/-- The kernel ends, its arguments unchanged and its semaphores at zero. -/
theorem kernel_frame : Cert.quiescent_Kernel := fun m g _ =>
  (θ_run _ _ _).mono (fun _ h => ⟨fun c => ⟨(h.1 c (0 : Fin 3)).trans (Cert.KernelProof.finalA_x m g c),
    (h.1 c (1 : Fin 3)).trans (Cert.KernelProof.finalA_w m g c)⟩, h.2⟩) (Cert.KernelProof.run_main m g)

/-- So does its ideal program. -/
theorem ideal_frame : Cert.quiescent_KernelIdeal := fun m g _ =>
  (θ_run _ _ _).mono (fun _ h => ⟨fun c => ⟨(h.1 c (0 : Fin 3)).trans (Cert.KernelIdealProof.finalA_x m g c),
    (h.1 c (1 : Fin 3)).trans (Cert.KernelIdealProof.finalA_w m g c)⟩, h.2⟩) (Cert.KernelIdealProof.run_main m g)

/-- And the reference. -/
theorem reference_frame : Cert.quiescent_ReferenceIdeal := fun m g _ => Cert.ReferenceIdeal.Gen.frame m g

/-- Over the extended reals each device's result is its block of columns of the reference's. -/
theorem value : Cert.algebraic_KernelIdeal_ReferenceIdeal := fun m g m' g' _ h =>
  ⟨Cert.ReferenceIdealProof.outA m',
    (θ_run _ _ _).mono (fun _ r c => ⟨(r.1 c (2 : Fin 3)).trans ((Cert.KernelIdealProof.finalA_out m g c).trans (Cert.Equation.out_eq g h c)),
      (r.1 c (0 : Fin 3)).trans (Cert.KernelIdealProof.finalA_x m g c),
      (r.1 c (1 : Fin 3)).trans (Cert.KernelIdealProof.finalA_w m g c)⟩) (Cert.KernelIdealProof.run_main m g),
    (θ_run _ _ _).mono (fun _ r => r 0) (Cert.ReferenceIdeal.Value.run_blocks m' g')⟩

theorem claim : Cert.Claim := ⟨Cert.Kernel.Gen.facts, Cert.KernelIdeal.Gen.facts, Cert.ReferenceIdeal.Gen.facts,
  kernel_frame, ideal_frame, reference_frame, trivial, value⟩

end Cert.Proof

end
